-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_k_KernelIdeal [hPre_finite_x_k_KernelIdeal : Cert.Pre_finite_x_k_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_k_ReferenceIdeal [hPre_finite_x_k_ReferenceIdeal : Cert.Pre_finite_x_k_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_x_k_KernelIdeal [hKernelIdeal : Cert.KernelIdeal.Facts] [hPre_finite_x_k_KernelIdeal : Cert.Pre_finite_x_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_k_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_x_k_ReferenceIdeal [hReferenceIdeal : Cert.ReferenceIdeal.Facts] [hPre_finite_x_k_ReferenceIdeal : Cert.Pre_finite_x_k_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_k_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "qscale" .bf16 0x38EE#16 ((((1 / 8) * (165 / 262144)) * (Real.log 2)⁻¹ : ℝ) : EReal)

def algebraic_KernelIdeal_ReferenceIdeal_pre_finite_x_k_KernelIdeal [hKernelIdeal : Cert.KernelIdeal.Facts] [hReferenceIdeal : Cert.ReferenceIdeal.Facts] [hPre_finite_x_k_KernelIdeal : Cert.Pre_finite_x_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_k_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = Layout.block ⟨3, ![2, 256, 512]⟩ ⟨3, ![16, 256, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v61) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_x_k_KernelIdeal : Cert.Pre_finite_x_k_KernelIdeal.Facts) (hPre_finite_x_k_ReferenceIdeal : Cert.Pre_finite_x_k_ReferenceIdeal.Facts),
    quiescent_Kernel (hKernel := hKernel)
    ∧ quiescent_KernelIdeal (hKernelIdeal := hKernelIdeal)
    ∧ quiescent_KernelIdeal_pre_finite_x_k_KernelIdeal (hKernelIdeal := hKernelIdeal) (hPre_finite_x_k_KernelIdeal := hPre_finite_x_k_KernelIdeal)
    ∧ quiescent_ReferenceIdeal (hReferenceIdeal := hReferenceIdeal)
    ∧ quiescent_ReferenceIdeal_pre_finite_x_k_ReferenceIdeal (hReferenceIdeal := hReferenceIdeal) (hPre_finite_x_k_ReferenceIdeal := hPre_finite_x_k_ReferenceIdeal)
    ∧ preserves_Kernel_KernelIdeal
    ∧ algebraic_KernelIdeal_ReferenceIdeal_pre_finite_x_k_KernelIdeal (hKernelIdeal := hKernelIdeal) (hReferenceIdeal := hReferenceIdeal) (hPre_finite_x_k_KernelIdeal := hPre_finite_x_k_KernelIdeal)
-- ==== Pre_finite_x_k_KernelIdeal.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S16x256x32x64 : S_.BroadcastsInDim S16x256x32x64 (![] : Fin 0 → Fin S16x256x32x64.rank)
  reducesTo_S16x256x32x64_S_d0_1_2_3 : S16x256x32x64.ReducesTo [0, 1, 2, 3] S_

variable [Facts]

def fn {F : FTy → Type} [FloatOps F] (main_arg0 : FVec F S2x256x512 .bf16) (main_arg1 : FVec F S512x256 .bf16) (main_arg2 : FVec F S16x256x32x64 .bf16) (main_arg3 : FVec F S16x256x32x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S16x256x32x64 .bf16 := Host.absf main_arg2
  let main_cst_0 : FVec F S_ .bf16 := constant S_ .bf16 0x7F80#16
  let main_v5 : FVec F S16x256x32x64 .bf16 := broadcastInDim S16x256x32x64 ![] bcast_S_S16x256x32x64 main_cst_0
  let main_v6 : IVec S16x256x32x64 1 := cmpf .olt main_v4 main_v5
  let main_c_1 : IVec S_ 1 := constantI S_ 1 1#1
  let main_v7 : IVec S_ 1 := (fun x v => Host.reduce IntOp.andi x v reducesTo_S16x256x32x64_S_d0_1_2_3 h_S_) main_v6 main_c_1
  let main_v8 : IVec S_ 1 := andi main_v3 main_v7
  main_v8
-- ==== Pre_finite_x_k_ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S16x256x32x64 : S_.BroadcastsInDim S16x256x32x64 (![] : Fin 0 → Fin S16x256x32x64.rank)
  reducesTo_S16x256x32x64_S_d0_1_2_3 : S16x256x32x64.ReducesTo [0, 1, 2, 3] S_

variable [Facts]

def fn {F : FTy → Type} [FloatOps F] (main_arg0 : FVec F S16x256x512 .bf16) (main_arg1 : FVec F S512x2048 .bf16) (main_arg2 : FVec F S16x256x32x64 .bf16) (main_arg3 : FVec F S16x256x32x64 .bf16) (main_arg4 : FVec F S2048x512 .bf16) : IVec S_ 1 :=
  let main_v0 : FVec F S16x256x512 .bf16 := Host.absf main_arg0
  let main_cst : FVec F S_ .bf16 := constant S_ .bf16 0x7F80#16
  let main_v1 : FVec F S16x256x512 .bf16 := broadcastInDim S16x256x512 ![] bcast_S_S16x256x512 main_cst
  let main_v2 : IVec S16x256x512 1 := cmpf .olt main_v0 main_v1
  let main_c : IVec S_ 1 := constantI S_ 1 1#1
  let main_v3 : IVec S_ 1 := (fun x v => Host.reduce IntOp.andi x v reducesTo_S16x256x512_S_d0_1_2 h_S_) main_v2 main_c
  let main_v4 : FVec F S16x256x32x64 .bf16 := Host.absf main_arg2
  let main_cst_0 : FVec F S_ .bf16 := constant S_ .bf16 0x7F80#16
  let main_v5 : FVec F S16x256x32x64 .bf16 := broadcastInDim S16x256x32x64 ![] bcast_S_S16x256x32x64 main_cst_0
  let main_v6 : IVec S16x256x32x64 1 := cmpf .olt main_v4 main_v5
  let main_c_1 : IVec S_ 1 := constantI S_ 1 1#1
  let main_v7 : IVec S_ 1 := (fun x v => Host.reduce IntOp.andi x v reducesTo_S16x256x32x64_S_d0_1_2_3 h_S_) main_v6 main_c_1
  let main_v8 : IVec S_ 1 := andi main_v3 main_v7
  main_v8
-- ==== Kernel.lean ====
abbrev S2x256x512 : Shape := ⟨3, ![2, 256, 512]⟩
abbrev S512x256 : Shape := ⟨2, ![512, 256]⟩
abbrev S16x256x32x64 : Shape := ⟨4, ![16, 256, 32, 64]⟩
abbrev S256x512 : Shape := ⟨2, ![256, 512]⟩
abbrev S_ : Shape := ⟨0, ![]⟩
abbrev S2x256x32x64 : Shape := ⟨4, ![2, 256, 32, 64]⟩
abbrev S2x32x256x64 : Shape := ⟨4, ![2, 32, 256, 64]⟩
abbrev S2x8x4x256x64 : Shape := ⟨5, ![2, 8, 4, 256, 64]⟩
abbrev S8x2x4x256x64 : Shape := ⟨5, ![8, 2, 4, 256, 64]⟩
abbrev S8x8x256x64 : Shape := ⟨4, ![8, 8, 256, 64]⟩
abbrev S512x512 : Shape := ⟨2, ![512, 512]⟩
abbrev S8x512x512 : Shape := ⟨3, ![8, 512, 512]⟩
abbrev S8 : Shape := ⟨1, ![8]⟩
abbrev S256x256 : Shape := ⟨2, ![256, 256]⟩
abbrev S1 : Shape := ⟨1, ![1]⟩
abbrev S1x512x512 : Shape := ⟨3, ![1, 512, 512]⟩
abbrev S1x8x256x64 : Shape := ⟨4, ![1, 8, 256, 64]⟩
abbrev S8x256x64 : Shape := ⟨3, ![8, 256, 64]⟩
abbrev S256x64 : Shape := ⟨2, ![256, 64]⟩
abbrev S1x256x64 : Shape := ⟨3, ![1, 256, 64]⟩
abbrev S256 : Shape := ⟨1, ![256]⟩
abbrev S256x1 : Shape := ⟨2, ![256, 1]⟩
abbrev S2x512x512 : Shape := ⟨3, ![2, 512, 512]⟩

abbrev nBuf : Space → Nat
  | .hbm => 79
  | .vmem => 7
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S16x256x32x64, .bf16⟩
  | .hbm, ⟨3, _⟩ => ⟨S16x256x32x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x32x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x32x64, .bf16⟩
  | .hbm, ⟨33, _⟩ => ⟨S2x32x256x64, .bf16⟩
  | .hbm, ⟨34, _⟩ => ⟨S2x8x4x256x64, .bf16⟩
  | .hbm, ⟨35, _⟩ => ⟨S8x2x4x256x64, .bf16⟩
  | .hbm, ⟨36, _⟩ => ⟨S8x8x256x64, .bf16⟩
  | .hbm, ⟨37, _⟩ => ⟨S2x32x256x64, .bf16⟩
  | .hbm, ⟨38, _⟩ => ⟨S2x8x4x256x64, .bf16⟩
  | .hbm, ⟨39, _⟩ => ⟨S8x2x4x256x64, .bf16⟩
  | .hbm, ⟨40, _⟩ => ⟨S8x8x256x64, .bf16⟩
  | .hbm, ⟨41, _⟩ => ⟨S_, .bf16⟩
  | .hbm, ⟨42, _⟩ => ⟨S512x256, .bf16⟩
  | .hbm, ⟨43, _⟩ => ⟨S512x256, .bf16⟩
  | .hbm, ⟨44, _⟩ => ⟨S512x256, .bf16⟩
  | .hbm, ⟨45, _⟩ => ⟨S_, .i32⟩
  | .hbm, ⟨46, _⟩ => ⟨S_, .i32⟩
  | .hbm, ⟨47, _⟩ => ⟨S_, .bf16⟩
  | .hbm, ⟨48, _⟩ => ⟨S512x256, .bf16⟩
  | .hbm, ⟨49, _⟩ => ⟨S512x256, .bf16⟩
  | .hbm, ⟨50, _⟩ => ⟨S_, .bf16⟩
  | .hbm, ⟨51, _⟩ => ⟨S512x256, .bf16⟩
  | .hbm, ⟨52, _⟩ => ⟨S512x256, .bf16⟩
  | .hbm, ⟨53, _⟩ => ⟨S512x256, .f32⟩
  | .hbm, ⟨54, _⟩ => ⟨S512x256, .i32⟩
  | .hbm, ⟨55, _⟩ => ⟨S512x256, .i8⟩
  | .hbm, ⟨56, _⟩ => ⟨S256x512, .i8⟩
  | .hbm, ⟨57, _⟩ => ⟨S_, .bf16⟩
  | .hbm, ⟨58, _⟩ => ⟨S256x512, .bf16⟩
  | .hbm, ⟨59, _⟩ => ⟨S256x512, .bf16⟩
  | .hbm, ⟨60, _⟩ => ⟨S256x512, .bf16⟩
  | .hbm, ⟨61, _⟩ => ⟨S_, .i32⟩
  | .hbm, ⟨62, _⟩ => ⟨S_, .i32⟩
  | .hbm, ⟨63, _⟩ => ⟨S_, .bf16⟩
  | .hbm, ⟨64, _⟩ => ⟨S256x512, .bf16⟩
  | .hbm, ⟨65, _⟩ => ⟨S256x512, .bf16⟩
  | .hbm, ⟨66, _⟩ => ⟨S_, .bf16⟩
  | .hbm, ⟨67, _⟩ => ⟨S256x512, .bf16⟩
  | .hbm, ⟨68, _⟩ => ⟨S256x512, .bf16⟩
  | .hbm, ⟨69, _⟩ => ⟨S256x512, .f32⟩
  | .hbm, ⟨70, _⟩ => ⟨S256x512, .i32⟩
  | .hbm, ⟨71, _⟩ => ⟨S256x512, .i8⟩
  | .hbm, ⟨72, _⟩ => ⟨S512x512, .i8⟩
  | .hbm, ⟨73, _⟩ => ⟨S_, .bf16⟩
  | .hbm, ⟨74, _⟩ => ⟨S8x8x256x64, .bf16⟩
  | .hbm, ⟨75, _⟩ => ⟨S8x8x256x64, .bf16⟩
  | .hbm, ⟨76, _⟩ => ⟨S512x512, .bf16⟩
  | .hbm, ⟨77, _⟩ => ⟨S512x512, .f32⟩
  | .hbm, ⟨78, _⟩ => ⟨S2x256x512, .f32⟩
  | .local _ .vmem, ⟨0, _⟩ => ⟨S512x512, .bf16⟩
  | .local _ .vmem, ⟨1, _⟩ => ⟨S512x512, .i8⟩
  | .local _ .vmem, ⟨2, _⟩ => ⟨S8x8x256x64, .bf16⟩
  | .local _ .vmem, ⟨3, _⟩ => ⟨S8x8x256x64, .bf16⟩
  | .local _ .vmem, ⟨4, _⟩ => ⟨S512x512, .f32⟩
  | .local _ .vmem, ⟨5, _⟩ => ⟨S8x512x512, .i8⟩
  | .local _ .vmem, ⟨6, _⟩ => ⟨S512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_13 : Ref sig .tc := ⟨.hbm, 45, rfl⟩
abbrev main_c_14 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_15 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_16 : Ref sig .tc := ⟨.hbm, 61, rfl⟩
abbrev main_c_17 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_18 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v26 : BitVec 32 := Scalar.addi v12 c3_i32
  let c4_i32_11 : BitVec 32 := 4#32
  let c0_i32_12 : BitVec 32 := 0#32
  let v27 : BitVec 1 := Scalar.cmpi .eq c4_i32_11 c0_i32_12
  let c1_i32_13 : BitVec 32 := 1#32
  let v28 : BitVec 32 := Scalar.select v27 c1_i32_13 c4_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let v37 : BitVec 32 := Scalar.addi v13 v36
  let c1_i32_52 : BitVec 32 := 1#32
  let v99 : BitVec 32 := Scalar.muli v37 c1_i32_52
  let v100 : BitVec 32 := Scalar.addi c0_i32_53 v99
  v100.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_55 : BitVec 32 := 1#32
  let v101 : BitVec 32 := Scalar.muli v25 c1_i32_55
  let v102 : BitVec 32 := Scalar.addi c0_i32_56 v101
  v102.toNat
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v38 : BitVec 32 := Scalar.addi v2 c4_i32_17
  let c8_i32_18 : BitVec 32 := 8#32
  let c0_i32_19 : BitVec 32 := 0#32
  let v39 : BitVec 1 := Scalar.cmpi .eq c8_i32_18 c0_i32_19
  let c1_i32_20 : BitVec 32 := 1#32
  let v40 : BitVec 32 := Scalar.select v39 c1_i32_20 c8_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c1_i32_58 : BitVec 32 := 1#32
  let v103 : BitVec 32 := Scalar.muli v48 c1_i32_58
  let v104 : BitVec 32 := Scalar.addi c0_i32_59 v103
  v104.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_86 : BitVec 32 := 1#32
  let v181 : BitVec 32 := Scalar.muli v25 c1_i32_86
  let v182 : BitVec 32 := Scalar.addi c0_i32_87 v181
  v182.toNat
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c3_i32 : BitVec 32 := 3#32
  let v26 : BitVec 32 := Scalar.addi v12 c3_i32
  let c4_i32_11 : BitVec 32 := 4#32
  let c0_i32_12 : BitVec 32 := 0#32
  let v27 : BitVec 1 := Scalar.cmpi .eq c4_i32_11 c0_i32_12
  let c1_i32_13 : BitVec 32 := 1#32
  let v28 : BitVec 32 := Scalar.select v27 c1_i32_13 c4_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let v37 : BitVec 32 := Scalar.addi v13 v36
  let c1_i32_93 : BitVec 32 := 1#32
  let v189 : BitVec 32 := Scalar.muli v37 c1_i32_93
  let v190 : BitVec 32 := Scalar.addi c0_i32_94 v189
  v190.toNat
def k0_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v38 : BitVec 32 := Scalar.addi v2 c4_i32_17
  let c8_i32_18 : BitVec 32 := 8#32
  let c0_i32_19 : BitVec 32 := 0#32
  let v39 : BitVec 1 := Scalar.cmpi .eq c8_i32_18 c0_i32_19
  let c1_i32_20 : BitVec 32 := 1#32
  let v40 : BitVec 32 := Scalar.select v39 c1_i32_20 c8_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c1_i32_99 : BitVec 32 := 1#32
  let v197 : BitVec 32 := Scalar.muli v48 c1_i32_99
  let v198 : BitVec 32 := Scalar.addi c0_i32_100 v197
  v198.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v215 : Index := Scalar.indexCast v2
  let c0_109 : Index := 0#32
  let c0_110 : Index := 0#32
  let c0_111 : Index := 0#32
  ![v215.toNat, 0, 0, 0]
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v38 : BitVec 32 := Scalar.addi v2 c4_i32_17
  let c8_i32_18 : BitVec 32 := 8#32
  let c0_i32_19 : BitVec 32 := 0#32
  let v39 : BitVec 1 := Scalar.cmpi .eq c8_i32_18 c0_i32_19
  let c1_i32_20 : BitVec 32 := 1#32
  let v40 : BitVec 32 := Scalar.select v39 c1_i32_20 c8_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c1_i32_187 : BitVec 32 := 1#32
  let v405 : BitVec 32 := Scalar.muli v48 c1_i32_187
  let v406 : BitVec 32 := Scalar.addi c0_i32_188 v405
  v406.toNat
def k0_dev8 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let c1_i32_4 : BitVec 32 := 1#32
  let v14 : BitVec 32 := Scalar.addi v12 c1_i32_4
  let c4_i32_5 : BitVec 32 := 4#32
  let c0_i32_6 : BitVec 32 := 0#32
  let v15 : BitVec 1 := Scalar.cmpi .eq c4_i32_5 c0_i32_6
  let c1_i32_7 : BitVec 32 := 1#32
  let v16 : BitVec 32 := Scalar.select v15 c1_i32_7 c4_i32_5
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : BitVec 32 := Scalar.addi v13 v24
  let c1_i32_197 : BitVec 32 := 1#32
  let v415 : BitVec 32 := Scalar.muli v25 c1_i32_197
  let v416 : BitVec 32 := Scalar.addi c0_i32_198 v415
  v416.toNat
def k0_off2 (d0 : Dev nD) (c3_i32 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v13 : BitVec 32 := Scalar.subi v2 v12
  let v26 : BitVec 32 := Scalar.addi v12 c3_i32
  let c4_i32_11 : BitVec 32 := 4#32
  let c0_i32_12 : BitVec 32 := 0#32
  let v27 : BitVec 1 := Scalar.cmpi .eq c4_i32_11 c0_i32_12
  let c1_i32_13 : BitVec 32 := 1#32
  let v28 : BitVec 32 := Scalar.select v27 c1_i32_13 c4_i32_11
  let v29 : BitVec 32 := Scalar.remsi v26 v28
  let c0_i32_15 : BitVec 32 := 0#32
  let v31 : BitVec 1 := Scalar.cmpi .slt v29 c0_i32_15
  let c0_i32_16 : BitVec 32 := 0#32
  let v32 : BitVec 1 := Scalar.cmpi .slt v28 c0_i32_16
  let v33 : BitVec 1 := Scalar.xori v31 v32
  let c0_i32_14 : BitVec 32 := 0#32
  let v30 : BitVec 1 := Scalar.cmpi .ne v29 c0_i32_14
  let v34 : BitVec 1 := Scalar.andi v33 v30
  let v35 : BitVec 32 := Scalar.addi v29 v28
  let v36 : BitVec 32 := Scalar.select v34 v35 v29
  let v37 : BitVec 32 := Scalar.addi v13 v36
  let v435 : Index := Scalar.indexCast v37
  let c0_209 : Index := 0#32
  let c0_210 : Index := 0#32
  let c0_211 : Index := 0#32
  ![v435.toNat, 0, 0, 0]
def k0_dev9 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v38 : BitVec 32 := Scalar.addi v2 c4_i32_17
  let c8_i32_18 : BitVec 32 := 8#32
  let c0_i32_19 : BitVec 32 := 0#32
  let v39 : BitVec 1 := Scalar.cmpi .eq c8_i32_18 c0_i32_19
  let c1_i32_20 : BitVec 32 := 1#32
  let v40 : BitVec 32 := Scalar.select v39 c1_i32_20 c8_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c1_i32_374 : BitVec 32 := 1#32
  let v825 : BitVec 32 := Scalar.muli v48 c1_i32_374
  let v826 : BitVec 32 := Scalar.addi c0_i32_375 v825
  v826.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v38 : BitVec 32 := Scalar.addi v2 c4_i32_17
  let c8_i32_18 : BitVec 32 := 8#32
  let c0_i32_19 : BitVec 32 := 0#32
  let v39 : BitVec 1 := Scalar.cmpi .eq c8_i32_18 c0_i32_19
  let c1_i32_20 : BitVec 32 := 1#32
  let v40 : BitVec 32 := Scalar.select v39 c1_i32_20 c8_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v1043 : Index := Scalar.indexCast v48
  let c0_473 : Index := 0#32
  let c0_474 : Index := 0#32
  let c0_475 : Index := 0#32
  ![v1043.toNat, 0, 0, 0]
def k0_off4 (d0 : Dev nD) (c3_i32_30 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v38 : BitVec 32 := Scalar.addi v2 c4_i32_17
  let c8_i32_18 : BitVec 32 := 8#32
  let c0_i32_19 : BitVec 32 := 0#32
  let v39 : BitVec 1 := Scalar.cmpi .eq c8_i32_18 c0_i32_19
  let c1_i32_20 : BitVec 32 := 1#32
  let v40 : BitVec 32 := Scalar.select v39 c1_i32_20 c8_i32_18
  let v41 : BitVec 32 := Scalar.remsi v38 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v49 : BitVec 32 := Scalar.subi v48 v12
  let v62 : BitVec 32 := Scalar.addi v12 c3_i32_30
  let c4_i32_31 : BitVec 32 := 4#32
  let c0_i32_32 : BitVec 32 := 0#32
  let v63 : BitVec 1 := Scalar.cmpi .eq c4_i32_31 c0_i32_32
  let c1_i32_33 : BitVec 32 := 1#32
  let v64 : BitVec 32 := Scalar.select v63 c1_i32_33 c4_i32_31
  let v65 : BitVec 32 := Scalar.remsi v62 v64
  let c0_i32_35 : BitVec 32 := 0#32
  let v67 : BitVec 1 := Scalar.cmpi .slt v65 c0_i32_35
  let c0_i32_36 : BitVec 32 := 0#32
  let v68 : BitVec 1 := Scalar.cmpi .slt v64 c0_i32_36
  let v69 : BitVec 1 := Scalar.xori v67 v68
  let c0_i32_34 : BitVec 32 := 0#32
  let v66 : BitVec 1 := Scalar.cmpi .ne v65 c0_i32_34
  let v70 : BitVec 1 := Scalar.andi v69 v66
  let v71 : BitVec 32 := Scalar.addi v65 v64
  let v72 : BitVec 32 := Scalar.select v70 v71 v65
  let v73 : BitVec 32 := Scalar.addi v49 v72
  let v1243 : Index := Scalar.indexCast v73
  let c0_558 : Index := 0#32
  let c0_559 : Index := 0#32
  let c0_560 : Index := 0#32
  ![v1243.toNat, 0, 0, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "qscale" => some ((((1 / 8) * (165 / 262144)) * (Real.log 2)⁻¹ : ℝ) : EReal)
  | _ => none
-- ==== ReferenceIdeal.lean ====
abbrev S16x256x512 : Shape := ⟨3, ![16, 256, 512]⟩
abbrev S512x2048 : Shape := ⟨2, ![512, 2048]⟩
abbrev S16x256x32x64 : Shape := ⟨4, ![16, 256, 32, 64]⟩
abbrev S2048x512 : Shape := ⟨2, ![2048, 512]⟩
abbrev S_ : Shape := ⟨0, ![]⟩
abbrev S16x256x2048 : Shape := ⟨3, ![16, 256, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16x32x256x256 : Shape := ⟨4, ![16, 32, 256, 256]⟩
abbrev S1x1x256x256 : Shape := ⟨4, ![1, 1, 256, 256]⟩
abbrev S16x32x256 : Shape := ⟨3, ![16, 32, 256]⟩
abbrev S16x32x256x1 : Shape := ⟨4, ![16, 32, 256, 1]⟩
abbrev S1x1x256x1 : Shape := ⟨4, ![1, 1, 256, 1]⟩
abbrev S16x32x64x256 : Shape := ⟨4, ![16, 32, 64, 256]⟩

abbrev nBuf : Space → Nat
  | .hbm => 158
  | .vmem => 0
  | .smem => 0
  | _ => 0

abbrev hbmTy0_0 (i : Nat) : BufTy := match i % 128 with
  | 0 => ⟨S16x256x512, .bf16⟩
  | 1 => ⟨S512x2048, .bf16⟩
  | 2 => ⟨S16x256x32x64, .bf16⟩
  | 3 => ⟨S16x256x32x64, .bf16⟩
  | 4 => ⟨S2048x512, .bf16⟩
  | 5 => ⟨S16x256x512, .f32⟩
  | 6 => ⟨S_, .bf16⟩
  | 7 => ⟨S512x2048, .bf16⟩
  | 8 => ⟨S512x2048, .bf16⟩
  | 9 => ⟨S512x2048, .bf16⟩
  | 10 => ⟨S_, .i32⟩
  | 11 => ⟨S_, .i32⟩
  | 12 => ⟨S_, .bf16⟩
  | 13 => ⟨S512x2048, .bf16⟩
  | 14 => ⟨S512x2048, .bf16⟩
  | 15 => ⟨S_, .bf16⟩
  | 16 => ⟨S512x2048, .bf16⟩
  | 17 => ⟨S512x2048, .bf16⟩
  | 18 => ⟨S512x2048, .f32⟩
  | 19 => ⟨S_, .f32⟩
  | 20 => ⟨S512x2048, .f32⟩
  | 21 => ⟨S512x2048, .f32⟩
  | 22 => ⟨S16x256x2048, .f32⟩
  | 23 => ⟨S16x256x32x64, .f32⟩
  | 24 => ⟨S16x256x32x64, .bf16⟩
  | 25 => ⟨S256, .i32⟩
  | 26 => ⟨S_, .i32⟩
  | 27 => ⟨S_, .i32⟩
  | 28 => ⟨S256, .i32⟩
  | 29 => ⟨S256, .i32⟩
  | 30 => ⟨S256, .i32⟩
  | 31 => ⟨S_, .i32⟩
  | 32 => ⟨S256, .i32⟩
  | 33 => ⟨S256, .i1⟩
  | 34 => ⟨S256, .i32⟩
  | 35 => ⟨S256, .i32⟩
  | 36 => ⟨S_, .i32⟩
  | 37 => ⟨S256, .i32⟩
  | 38 => ⟨S256, .i1⟩
  | 39 => ⟨S256, .i1⟩
  | 40 => ⟨S_, .i32⟩
  | 41 => ⟨S256, .i32⟩
  | 42 => ⟨S256, .i32⟩
  | 43 => ⟨S256, .i32⟩
  | 44 => ⟨S256x1, .i32⟩
  | 45 => ⟨S256, .i32⟩
  | 46 => ⟨S_, .i32⟩
  | 47 => ⟨S_, .i32⟩
  | 48 => ⟨S256, .i32⟩
  | 49 => ⟨S256, .i32⟩
  | 50 => ⟨S256, .i32⟩
  | 51 => ⟨S_, .i32⟩
  | 52 => ⟨S256, .i32⟩
  | 53 => ⟨S256, .i1⟩
  | 54 => ⟨S256, .i32⟩
  | 55 => ⟨S256, .i32⟩
  | 56 => ⟨S_, .i32⟩
  | 57 => ⟨S256, .i32⟩
  | 58 => ⟨S256, .i1⟩
  | 59 => ⟨S256, .i1⟩
  | 60 => ⟨S_, .i32⟩
  | 61 => ⟨S256, .i32⟩
  | 62 => ⟨S256, .i32⟩
  | 63 => ⟨S256, .i32⟩
  | 64 => ⟨S1x256, .i32⟩
  | 65 => ⟨S256x256, .i32⟩
  | 66 => ⟨S256x256, .i32⟩
  | 67 => ⟨S256x256, .i1⟩
  | 68 => ⟨S_, .i32⟩
  | 69 => ⟨S1x256, .i32⟩
  | 70 => ⟨S1x256, .i1⟩
  | 71 => ⟨S256x256, .i1⟩
  | 72 => ⟨S256x256, .i1⟩
  | 73 => ⟨S256x256, .i32⟩
  | 74 => ⟨S256x256, .i32⟩
  | 75 => ⟨S256x256, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S256x256, .i32⟩
  | 83 => ⟨S256x256, .i32⟩
  | 84 => ⟨S_, .i32⟩
  | 85 => ⟨S256x256, .i32⟩
  | 86 => ⟨S256x256, .i1⟩
  | 87 => ⟨S_, .i32⟩
  | 88 => ⟨S256x256, .i32⟩
  | 89 => ⟨S256x256, .i1⟩
  | 90 => ⟨S_, .i32⟩
  | 91 => ⟨S_, .i1⟩
  | 92 => ⟨S256x256, .i1⟩
  | 93 => ⟨S256x256, .i1⟩
  | 94 => ⟨S256x256, .i1⟩
  | 95 => ⟨S256x256, .i32⟩
  | 96 => ⟨S256x256, .i32⟩
  | 97 => ⟨S256x256, .i32⟩
  | 98 => ⟨S_, .i32⟩
  | 99 => ⟨S256x256, .i32⟩
  | 100 => ⟨S256x256, .i1⟩
  | 101 => ⟨S256x256, .i1⟩
  | 102 => ⟨S16x32x256x256, .f32⟩
  | 103 => ⟨S_, .f32⟩
  | 104 => ⟨S16x32x256x256, .f32⟩
  | 105 => ⟨S16x32x256x256, .f32⟩
  | 106 => ⟨S1x1x256x256, .i1⟩
  | 107 => ⟨S_, .f32⟩
  | 108 => ⟨S_, .f32⟩
  | 109 => ⟨S16x32x256x256, .i1⟩
  | 110 => ⟨S16x32x256x256, .f32⟩
  | 111 => ⟨S16x32x256x256, .f32⟩
  | 112 => ⟨S_, .f32⟩
  | 113 => ⟨S16x32x256, .f32⟩
  | 114 => ⟨S16x32x256x1, .f32⟩
  | 115 => ⟨S16x32x256x256, .f32⟩
  | 116 => ⟨S16x32x256x256, .f32⟩
  | 117 => ⟨S16x32x256x256, .f32⟩
  | 118 => ⟨S_, .i1⟩
  | 119 => ⟨S256, .i1⟩
  | 120 => ⟨S1x1x256x1, .i1⟩
  | 121 => ⟨S_, .f32⟩
  | 122 => ⟨S16x32x256, .f32⟩
  | 123 => ⟨S16x32x256x1, .f32⟩
  | 124 => ⟨S_, .f32⟩
  | 125 => ⟨S_, .f32⟩
  | 126 => ⟨S16x32x256x1, .i1⟩
  | 127 => ⟨S16x32x256x1, .f32⟩
  | _ => ⟨S16x256x512, .bf16⟩

abbrev hbmTy0_1 (i : Nat) : BufTy := match i % 128 with
  | 0 => ⟨S16x32x256x1, .f32⟩
  | 1 => ⟨S16x32x256x256, .f32⟩
  | 2 => ⟨S16x32x256x256, .f32⟩
  | 3 => ⟨S1x1x256x1, .i1⟩
  | 4 => ⟨S_, .f32⟩
  | 5 => ⟨S_, .f32⟩
  | 6 => ⟨S16x32x256x256, .i1⟩
  | 7 => ⟨S16x32x256x256, .f32⟩
  | 8 => ⟨S16x32x256x256, .f32⟩
  | 9 => ⟨S16x256x32x64, .f32⟩
  | 10 => ⟨S16x32x64x256, .f32⟩
  | 11 => ⟨S16x256x32x64, .f32⟩
  | 12 => ⟨S16x256x2048, .f32⟩
  | 13 => ⟨S_, .bf16⟩
  | 14 => ⟨S2048x512, .bf16⟩
  | 15 => ⟨S2048x512, .bf16⟩
  | 16 => ⟨S2048x512, .bf16⟩
  | 17 => ⟨S_, .i32⟩
  | 18 => ⟨S_, .i32⟩
  | 19 => ⟨S_, .bf16⟩
  | 20 => ⟨S2048x512, .bf16⟩
  | 21 => ⟨S2048x512, .bf16⟩
  | 22 => ⟨S_, .bf16⟩
  | 23 => ⟨S2048x512, .bf16⟩
  | 24 => ⟨S2048x512, .bf16⟩
  | 25 => ⟨S2048x512, .f32⟩
  | 26 => ⟨S_, .f32⟩
  | 27 => ⟨S2048x512, .f32⟩
  | 28 => ⟨S2048x512, .f32⟩
  | 29 => ⟨S16x256x512, .f32⟩
  | _ => ⟨S16x256x512, .bf16⟩

abbrev hbmTy (i : Nat) : BufTy := match i / 128 with
  | 0 => hbmTy0_0 i
  | 1 => hbmTy0_1 i
  | _ => ⟨S16x256x512, .bf16⟩

abbrev bufTy : (tb : Table) → Fin (tcTables nBuf tb) → BufTy
  | .hbm, ⟨i, _⟩ => hbmTy i
  | _, _ => ⟨S16x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_c : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_0 : Ref sig .tc := ⟨.hbm, 40, rfl⟩
abbrev main_call2_v12 : Ref sig .tc := ⟨.hbm, 41, rfl⟩
abbrev main_call2_v13 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_3 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_v6 : Ref sig .tc := ⟨.hbm, 53, rfl⟩
abbrev main_call3_v7 : Ref sig .tc := ⟨.hbm, 54, rfl⟩
abbrev main_call3_v8 : Ref sig .tc := ⟨.hbm, 55, rfl⟩
abbrev main_call3_c : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_0 : Ref sig .tc := ⟨.hbm, 60, rfl⟩
abbrev main_call3_v12 : Ref sig .tc := ⟨.hbm, 61, rfl⟩
abbrev main_call3_v13 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_c_4 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_5 : Ref sig .tc := ⟨.hbm, 76, rfl⟩
abbrev main_call4_v0 : Ref sig .tc := ⟨.hbm, 77, rfl⟩
abbrev main_call4_c : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_c_1 : Ref sig .tc := ⟨.hbm, 84, rfl⟩
abbrev main_call4_v5 : Ref sig .tc := ⟨.hbm, 85, rfl⟩
abbrev main_call4_v6 : Ref sig .tc := ⟨.hbm, 86, rfl⟩
abbrev main_call4_c_2 : Ref sig .tc := ⟨.hbm, 87, rfl⟩
abbrev main_call4_v7 : Ref sig .tc := ⟨.hbm, 88, rfl⟩
abbrev main_call4_v8 : Ref sig .tc := ⟨.hbm, 89, rfl⟩
abbrev main_call4_c_3 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_v12 : Ref sig .tc := ⟨.hbm, 94, rfl⟩
abbrev main_call4_v13 : Ref sig .tc := ⟨.hbm, 95, rfl⟩
abbrev main_call4_v14 : Ref sig .tc := ⟨.hbm, 96, rfl⟩
abbrev main_v27 : Ref sig .tc := ⟨.hbm, 97, rfl⟩
abbrev main_c_6 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_cst_7 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst_8 : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_v35 : Ref sig .tc := ⟨.hbm, 111, rfl⟩
abbrev main_cst_9 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_c_10 : Ref sig .tc := ⟨.hbm, 118, rfl⟩
abbrev main_v41 : Ref sig .tc := ⟨.hbm, 119, rfl⟩
abbrev main_v42 : Ref sig .tc := ⟨.hbm, 120, rfl⟩
abbrev main_cst_11 : Ref sig .tc := ⟨.hbm, 121, rfl⟩
abbrev main_v43 : Ref sig .tc := ⟨.hbm, 122, rfl⟩
abbrev main_v44 : Ref sig .tc := ⟨.hbm, 123, rfl⟩
abbrev main_cst_12 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_cst_13 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_cst_14 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_c_15 : Ref sig .tc := ⟨.hbm, 145, rfl⟩
abbrev main_c_16 : Ref sig .tc := ⟨.hbm, 146, rfl⟩
abbrev main_call9_v0 : Ref sig .tc := ⟨.hbm, 147, rfl⟩
abbrev main_call9_v1 : Ref sig .tc := ⟨.hbm, 148, rfl⟩
abbrev main_call9_v2 : Ref sig .tc := ⟨.hbm, 149, rfl⟩
abbrev main_call9_v3 : Ref sig .tc := ⟨.hbm, 150, rfl⟩
abbrev main_call9_v4 : Ref sig .tc := ⟨.hbm, 151, rfl⟩
abbrev main_v57 : Ref sig .tc := ⟨.hbm, 152, rfl⟩
abbrev main_v58 : Ref sig .tc := ⟨.hbm, 153, rfl⟩
abbrev main_cst_17 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩

abbrev nD : Nat := 1
abbrev τ : Topo := Topo.v7x

variable {F : FTy → Type} [FloatOps F]
-- ==== Proof.Body.lean ====
module

public import proofs.«01_k».proof.Proof.Gen.KernelIdeal.Skeleton

@[expose] public section

noncomputable section

namespace Cert.KernelIdeal.Body

open Idealize.ShloMosaic Idealize.SL.Sem
open Cert.KernelIdeal Cert.KernelIdeal.Gen

variable {F : FTy → Type} [FloatOps F] [Named F]

/-! # The kernel's body, written with one program for the work on a weight block

The printed body repeats the same work eight times, once per weight block. Here that work is one program,
`chunk`, and `body` is the printed body written with it. -/

/-- The block-sparse mask of the attention: which key each query row may read. -/
def mask : IVec S256x256 1 :=
  k0_pay5 (k0_pay1 (iota .tc S256x256 32 [0] iota_S256x256_d0_w32) 64#32) k0_pay2 k0_pay3 k0_pay4

/-- The block of scaled queries: the activations times the scale, times the transposed query codes of the block. -/
def queries (wb : IVec S512x512 8) (x : Vec F S512x512 .bf16) : FVec F S512x256 .bf16 :=
  truncf .bf16 (matmul dot_S512x512_S256x512_S512x256_1_1_0_0_n_n none
    (mulf (shapeCast S512x512 x shapeCasts_S512x512_S512x512) (broadcast S512x512 (Named.named κ "qscale" 0x38EE#16)))
    (sitofp .bf16 (extractStridedSlice S256x512 ![0, 0] wb slices_S512x512_o0_0_S256x512))
    (constant S512x256 .f32 0x00000000#32)) bitsLt_bf16_f32

/-- The unnormalised weights of one head: two to the power of the scores where the mask allows, zero elsewhere. -/
def weights (mk : IVec S256x256 1) (q : FVec F S256x64 .bf16) (k3 : FVec F S1x256x64 .bf16) : FVec F S256x256 .f32 :=
  select mk (exp2 (matmul dot_S256x64_S256x64_S256x256_1_1_0_0_n_n none q
      (shapeCast S256x64 k3 shapeCasts_S1x256x64_S256x64) (constant S256x256 .f32 0x00000000#32)))
    (broadcast S256x256 (Scalar.ofBits .f32 0x00000000#32))

/-- One head: the weighted sum of the values, divided by the sum of the weights. -/
def attend (mk : IVec S256x256 1) (q : FVec F S256x64 .bf16) (k3 v3 : FVec F S1x256x64 .bf16) : FVec F S256x64 .bf16 :=
  shapeCast S256x64 (truncf .bf16 (mulf
    (matmul dot_S256x256_S256x64_S256x64_1_0_0_1_n_n none (truncf .bf16 (weights mk q k3) bitsLt_bf16_f32)
      (shapeCast S256x64 v3 shapeCasts_S1x256x64_S256x64) (constant S256x64 .f32 0x00000000#32))
    (broadcastTo S256x64
      (divf (broadcast S256x1 (Scalar.ofBits .f32 0x3F800000#32))
        (shapeCast S256x1 (multiReduction .add [1] S256 (weights mk q k3) 0x00000000#32 reduces_S256x256_S256 (.inl rfl) rfl) shapeCasts_S256_S256x1))
      broadcasts_S256x1_S256x64)) bitsLt_bf16_f32) shapeCasts_S256x64_S256x64

/-- The result with one weight block's part added: the heads' outputs times the block's output codes. -/
def accumulate (wb : IVec S512x512 8) (out : Vec F S512x512 .f32) (ctx : Vec F S512x256 .bf16) : FVec F S512x512 .f32 :=
  addf (shapeCast S512x512 out shapeCasts_S512x512_S512x512)
    (matmul dot_S512x256_S256x512_S512x512_1_0_0_1_n_n none ctx
      (sitofp .bf16 (extractStridedSlice S256x512 ![256, 0] wb slices_S512x512_o256_0_S256x512))
      (constant S512x512 .f32 0x00000000#32))

/-- One store of a head's output into its place in the heads' buffer (which the body reads first, for nothing). -/
def put (arg6 : Memref sig .tc .vmem S512x256 .bf16) (harg6 : arg6.IsWhole) (o : Fin 2 → Nat)
    (inb : ∀ a, o a + S256x64.size a ≤ S512x256.size a)
    (packed : (Rect.unit (s := S512x256) o S256x64.size inb).PackedRows (EltTy.packing .bf16)) (a : FVec F S256x64 .bf16) :
    Prog (TpuEff nD τ sig (Elt F) Λ₀ .tc) PUnit := do
  let _ : Vec F S256x64 .bf16 ← Prog.lift (.load arg6 (Rect.unit (s := S512x256) o S256x64.size inb).toLoadRect (View.loadsAt_vmem h_S256x64))
  Prog.lift (.store arg6 (Rect.unit (s := S512x256) o S256x64.size inb) a Finset.univ (View.stores_vmem h_S256x64 (harg6.storeExact_slice rfl _ packed) (fun _ => rfl)) (.inl rfl))

/-- The eight heads of a block (two batches of four), each into its place. -/
def heads (arg6 : Memref sig .tc .vmem S512x256 .bf16) (harg6 : arg6.IsWhole) (mk : IVec S256x256 1)
    (q : FVec F S512x256 .bf16) (kc vc : FVec F S8x256x64 .bf16) : Prog (TpuEff nD τ sig (Elt F) Λ₀ .tc) PUnit := do
  put arg6 harg6 ![0, 0] inb_S512x256_S256x64_0_0 packedbf16_S512x256_S256x64_0_0
    (attend mk (extractStridedSlice S256x64 ![0, 0] q slices_S512x256_o0_0_S256x64) (extractStridedSlice S1x256x64 ![0, 0, 0] kc slices_S8x256x64_o0_0_0_S1x256x64) (extractStridedSlice S1x256x64 ![0, 0, 0] vc slices_S8x256x64_o0_0_0_S1x256x64))
  put arg6 harg6 ![0, 64] inb_S512x256_S256x64_0_64 packedbf16_S512x256_S256x64_0_64
    (attend mk (extractStridedSlice S256x64 ![0, 64] q slices_S512x256_o0_64_S256x64) (extractStridedSlice S1x256x64 ![1, 0, 0] kc slices_S8x256x64_o1_0_0_S1x256x64) (extractStridedSlice S1x256x64 ![1, 0, 0] vc slices_S8x256x64_o1_0_0_S1x256x64))
  put arg6 harg6 ![0, 128] inb_S512x256_S256x64_0_128 packedbf16_S512x256_S256x64_0_128
    (attend mk (extractStridedSlice S256x64 ![0, 128] q slices_S512x256_o0_128_S256x64) (extractStridedSlice S1x256x64 ![2, 0, 0] kc slices_S8x256x64_o2_0_0_S1x256x64) (extractStridedSlice S1x256x64 ![2, 0, 0] vc slices_S8x256x64_o2_0_0_S1x256x64))
  put arg6 harg6 ![0, 192] inb_S512x256_S256x64_0_192 packedbf16_S512x256_S256x64_0_192
    (attend mk (extractStridedSlice S256x64 ![0, 192] q slices_S512x256_o0_192_S256x64) (extractStridedSlice S1x256x64 ![3, 0, 0] kc slices_S8x256x64_o3_0_0_S1x256x64) (extractStridedSlice S1x256x64 ![3, 0, 0] vc slices_S8x256x64_o3_0_0_S1x256x64))
  put arg6 harg6 ![256, 0] inb_S512x256_S256x64_256_0 packedbf16_S512x256_S256x64_256_0
    (attend mk (extractStridedSlice S256x64 ![256, 0] q slices_S512x256_o256_0_S256x64) (extractStridedSlice S1x256x64 ![4, 0, 0] kc slices_S8x256x64_o4_0_0_S1x256x64) (extractStridedSlice S1x256x64 ![4, 0, 0] vc slices_S8x256x64_o4_0_0_S1x256x64))
  put arg6 harg6 ![256, 64] inb_S512x256_S256x64_256_64 packedbf16_S512x256_S256x64_256_64
    (attend mk (extractStridedSlice S256x64 ![256, 64] q slices_S512x256_o256_64_S256x64) (extractStridedSlice S1x256x64 ![5, 0, 0] kc slices_S8x256x64_o5_0_0_S1x256x64) (extractStridedSlice S1x256x64 ![5, 0, 0] vc slices_S8x256x64_o5_0_0_S1x256x64))
  put arg6 harg6 ![256, 128] inb_S512x256_S256x64_256_128 packedbf16_S512x256_S256x64_256_128
    (attend mk (extractStridedSlice S256x64 ![256, 128] q slices_S512x256_o256_128_S256x64) (extractStridedSlice S1x256x64 ![6, 0, 0] kc slices_S8x256x64_o6_0_0_S1x256x64) (extractStridedSlice S1x256x64 ![6, 0, 0] vc slices_S8x256x64_o6_0_0_S1x256x64))
  put arg6 harg6 ![256, 192] inb_S512x256_S256x64_256_192 packedbf16_S512x256_S256x64_256_192
    (attend mk (extractStridedSlice S256x64 ![256, 192] q slices_S512x256_o256_192_S256x64) (extractStridedSlice S1x256x64 ![7, 0, 0] kc slices_S8x256x64_o7_0_0_S1x256x64) (extractStridedSlice S1x256x64 ![7, 0, 0] vc slices_S8x256x64_o7_0_0_S1x256x64))

/-- The work on one weight block `wb`: its queries, its eight heads on the keys and values at `o`, and its part of the result. -/
def chunk (arg0 : Memref sig .tc .vmem S512x512 .bf16) (arg2 : Memref sig .tc .vmem S8x8x256x64 .bf16) (arg3 : Memref sig .tc .vmem S8x8x256x64 .bf16) (arg4 : Memref sig .tc .vmem S512x512 .f32) (arg6 : Memref sig .tc .vmem S512x256 .bf16) (harg6 : arg6.IsWhole) (mk : IVec S256x256 1)
    (o : Fin 4 → Nat) (inb : ∀ a, o a + S1x8x256x64.size a ≤ S8x8x256x64.size a) (wb : IVec S512x512 8) :
    Prog (TpuEff nD τ sig (Elt F) Λ₀ .tc) PUnit := do
  let x : Vec F S512x512 .bf16 ← Prog.lift (.load arg0 (Rect.unit (s := S512x512) ![0, 0] S512x512.size inb_S512x512_S512x512_0_0).toLoadRect (View.loadsAt_vmem h_S512x512))
  let k : Vec F S1x8x256x64 .bf16 ← Prog.lift (.load arg2 (Rect.unit (s := S8x8x256x64) o S1x8x256x64.size inb).toLoadRect (View.loadsAt_vmem h_S1x8x256x64))
  let v : Vec F S1x8x256x64 .bf16 ← Prog.lift (.load arg3 (Rect.unit (s := S8x8x256x64) o S1x8x256x64.size inb).toLoadRect (View.loadsAt_vmem h_S1x8x256x64))
  heads arg6 harg6 mk (queries wb x) (shapeCast S8x256x64 k shapeCasts_S1x8x256x64_S8x256x64) (shapeCast S8x256x64 v shapeCasts_S1x8x256x64_S8x256x64)
  let out : Vec F S512x512 .f32 ← Prog.lift (.load arg4 (Rect.unit (s := S512x512) ![0, 0] S512x512.size inb_S512x512_S512x512_0_0).toLoadRect (View.loadsAt_vmem h_S512x512))
  let ctx : Vec F S512x256 .bf16 ← Prog.lift (.load arg6 (Rect.unit (s := S512x256) ![0, 0] S512x256.size inb_S512x256_S512x256_0_0).toLoadRect (View.loadsAt_vmem h_S512x256))
  let _ : Vec F S512x512 .f32 ← Prog.lift (.load arg4 (Rect.unit (s := S512x512) ![0, 0] S512x512.size inb_S512x512_S512x512_0_0).toLoadRect (View.loadsAt_vmem h_S512x512))
  Prog.lift (.store arg4 (Rect.unit (s := S512x512) ![0, 0] S512x512.size inb_S512x512_S512x512_0_0) (accumulate wb out ctx) Finset.univ (View.stores_vmem_bits_univ h_S512x512 rfl) (.inl rfl))

/-- Slot `i` of the gather buffer, as a block of its own. -/
abbrev slot (arg5 : Memref sig .tc .vmem S8x512x512 .i8) (o : Fin 3 → Nat) (inb : ∀ a, o a + S1x512x512.size a ≤ S8x512x512.size a) :
    Memref sig .tc .vmem S512x512 .i8 :=
  (arg5.slice (Rect.unit (s := S8x512x512) o S1x512x512.size inb) (fun _ => rfl)).squeeze S512x512 squeezes_S1x512x512_S512x512
/-- Two consecutive slots of the gather buffer. -/
abbrev pair (arg5 : Memref sig .tc .vmem S8x512x512 .i8) (o : Fin 3 → Nat) (inb : ∀ a, o a + S2x512x512.size a ≤ S8x512x512.size a) :
    Memref sig .tc .vmem S2x512x512 .i8 :=
  arg5.slice (Rect.unit (s := S8x512x512) o S2x512x512.size inb) (fun _ => rfl)
/-- Entry `o` of an array of transfer semaphores. -/
abbrev entry (a : DmaSems sig S8) (o : Fin 1 → Nat) (inb : ∀ i, o i + S1.size i ≤ S8.size i) : DmaSem sig :=
  ((a.slice (Rect.unit (s := S8) o S1.size inb)).squeeze S_ squeezes_S1_S_).sem
/-- The barrier's semaphore. -/
abbrev bar : Sem sig := (SemArray.scalar (sig.barrier 0 rfl) : Sems sig S_).sem

/-- The barrier, the cleared result, and the three copies of the device's own block to its neighbours. -/
def stage0 (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) (d : Dev nD) :
    Prog (TpuEff nD τ sig (Elt F) Λ₀ .tc) PUnit := do
  semSignalWord (⟨k0_dev1 d, k0_dev1_lt d⟩ : Dev nD) bar 1#32
  semSignalWord (⟨k0_dev2 d, k0_dev2_lt d⟩ : Dev nD) bar 1#32
  semSignalWord (⟨k0_dev3 d, k0_dev3_lt d⟩ : Dev nD) bar 1#32
  semWaitWord bar 3#32
  let _ : Vec F S512x512 .f32 ← Prog.lift (.load arg4 (Rect.unit (s := S512x512) ![0, 0] S512x512.size inb_S512x512_S512x512_0_0).toLoadRect (View.loadsAt_vmem h_S512x512))
  Prog.lift (.store arg4 (Rect.unit (s := S512x512) ![0, 0] S512x512.size inb_S512x512_S512x512_0_0) (k0_pay6 (F := F)) Finset.univ (View.stores_vmem_bits_univ h_S512x512 rfl) (.inl rfl))
  Prog.lift (.enqueueDma arg1 (.remote (Dev.tc (⟨k0_dev4 d, k0_dev4_lt d⟩ : Dev nD)) (slot arg5 ![1, 0, 0] inb_S8x512x512_S1x512x512_1_0_0) (.dma (entry arg7 ![0] inb_S8_S1_0))) (.dma (entry arg8 ![1] inb_S8_S1_1)) harg1.wordExact ((harg5.wordExact_slice rfl _ wordsi8_S8x512x512_S1x512x512_1_0_0).reshape _ _) ⟨⟨rfl, Or.inl rfl⟩, trivial⟩)
  Prog.lift (.enqueueDma arg1 (.remote (Dev.tc (⟨k0_dev5 d, k0_dev5_lt d⟩ : Dev nD)) (slot arg5 ![2, 0, 0] inb_S8x512x512_S1x512x512_2_0_0) (.dma (entry arg7 ![1] inb_S8_S1_1))) (.dma (entry arg8 ![2] inb_S8_S1_2)) harg1.wordExact ((harg5.wordExact_slice rfl _ wordsi8_S8x512x512_S1x512x512_2_0_0).reshape _ _) ⟨⟨rfl, Or.inl rfl⟩, trivial⟩)
  Prog.lift (.enqueueDma arg1 (.remote (Dev.tc (⟨k0_dev6 d, k0_dev6_lt d⟩ : Dev nD)) (slot arg5 ![4, 0, 0] inb_S8x512x512_S1x512x512_4_0_0) (.dma (entry arg7 ![5] inb_S8_S1_5))) (.dma (entry arg8 ![4] inb_S8_S1_4)) harg1.wordExact ((harg5.wordExact_slice rfl _ wordsi8_S8x512x512_S1x512x512_4_0_0).reshape _ _) ⟨⟨rfl, Or.inl rfl⟩, trivial⟩)

/-- The device's own block, then the left neighbour's: waited for, passed on to the partner and to the right, and worked on. -/
def stage1 (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) (d : Dev nD) :
    Prog (TpuEff nD τ sig (Elt F) Λ₀ .tc) PUnit := do
  let w : Vec F S512x512 .i8 ← Prog.lift (.load arg1 (Rect.unit (s := S512x512) ![0, 0] S512x512.size inb_S512x512_S512x512_0_0).toLoadRect (View.loadsAt_vmem h_S512x512))
  chunk arg0 arg2 arg3 arg4 arg6 harg6 mask (k0_off1 d) (k0_off1_inb d) (shapeCast S512x512 w shapeCasts_S512x512_S512x512)
  Prog.lift (.waitDma2 (entry arg8 ![1] inb_S8_S1_1) (slot arg5 ![1, 0, 0] inb_S8x512x512_S1x512x512_1_0_0) (slot arg5 ![1, 0, 0] inb_S8x512x512_S1x512x512_1_0_0) ((harg5.wordExact_slice rfl _ wordsi8_S8x512x512_S1x512x512_1_0_0).reshape _ _) ((harg5.wordExact_slice rfl _ wordsi8_S8x512x512_S1x512x512_1_0_0).reshape _ _))
  Prog.lift (.enqueueDma (slot arg5 ![1, 0, 0] inb_S8x512x512_S1x512x512_1_0_0) (.remote (Dev.tc (⟨k0_dev7 d, k0_dev7_lt d⟩ : Dev nD)) (slot arg5 ![5, 0, 0] inb_S8x512x512_S1x512x512_5_0_0) (.dma (entry arg7 ![3] inb_S8_S1_3))) (.dma (entry arg8 ![5] inb_S8_S1_5)) ((harg5.wordExact_slice rfl _ wordsi8_S8x512x512_S1x512x512_1_0_0).reshape _ _) ((harg5.wordExact_slice rfl _ wordsi8_S8x512x512_S1x512x512_5_0_0).reshape _ _) ⟨⟨rfl, Or.inl rfl⟩, trivial⟩)
  Prog.lift (.enqueueDma (slot arg5 ![1, 0, 0] inb_S8x512x512_S1x512x512_1_0_0) (.remote (Dev.tc (⟨k0_dev8 d, k0_dev8_lt d⟩ : Dev nD)) (slot arg5 ![3, 0, 0] inb_S8x512x512_S1x512x512_3_0_0) (.dma (entry arg7 ![2] inb_S8_S1_2))) (.dma (entry arg8 ![3] inb_S8_S1_3)) ((harg5.wordExact_slice rfl _ wordsi8_S8x512x512_S1x512x512_1_0_0).reshape _ _) ((harg5.wordExact_slice rfl _ wordsi8_S8x512x512_S1x512x512_3_0_0).reshape _ _) ⟨⟨rfl, Or.inl rfl⟩, trivial⟩)
  let w1 : Vec F S1x512x512 .i8 ← Prog.lift (.load arg5 (Rect.unit (s := S8x512x512) ![1, 0, 0] S1x512x512.size inb_S8x512x512_S1x512x512_1_0_0).toLoadRect (View.loadsAt_vmem h_S1x512x512))
  chunk arg0 arg2 arg3 arg4 arg6 harg6 mask (k0_off2 d 3#32) (k0_off2_inb d 2) (shapeCast S512x512 w1 shapeCasts_S1x512x512_S512x512)

/-- The right neighbour's block and the opposite one of the plane; the two passed on to the partner. -/
def stage2 (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) (d : Dev nD) :
    Prog (TpuEff nD τ sig (Elt F) Λ₀ .tc) PUnit := do
  Prog.lift (.waitDma2 (entry arg8 ![2] inb_S8_S1_2) (slot arg5 ![2, 0, 0] inb_S8x512x512_S1x512x512_2_0_0) (slot arg5 ![2, 0, 0] inb_S8x512x512_S1x512x512_2_0_0) ((harg5.wordExact_slice rfl _ wordsi8_S8x512x512_S1x512x512_2_0_0).reshape _ _) ((harg5.wordExact_slice rfl _ wordsi8_S8x512x512_S1x512x512_2_0_0).reshape _ _))
  let w2 : Vec F S1x512x512 .i8 ← Prog.lift (.load arg5 (Rect.unit (s := S8x512x512) ![2, 0, 0] S1x512x512.size inb_S8x512x512_S1x512x512_2_0_0).toLoadRect (View.loadsAt_vmem h_S1x512x512))
  chunk arg0 arg2 arg3 arg4 arg6 harg6 mask (k0_off2 d 1#32) (k0_off2_inb d 0) (shapeCast S512x512 w2 shapeCasts_S1x512x512_S512x512)
  Prog.lift (.waitDma2 (entry arg8 ![3] inb_S8_S1_3) (slot arg5 ![3, 0, 0] inb_S8x512x512_S1x512x512_3_0_0) (slot arg5 ![3, 0, 0] inb_S8x512x512_S1x512x512_3_0_0) ((harg5.wordExact_slice rfl _ wordsi8_S8x512x512_S1x512x512_3_0_0).reshape _ _) ((harg5.wordExact_slice rfl _ wordsi8_S8x512x512_S1x512x512_3_0_0).reshape _ _))
  Prog.lift (.enqueueDma (pair arg5 ![2, 0, 0] inb_S8x512x512_S2x512x512_2_0_0) (.remote (Dev.tc (⟨k0_dev9 d, k0_dev9_lt d⟩ : Dev nD)) (pair arg5 ![6, 0, 0] inb_S8x512x512_S2x512x512_6_0_0) (.dma (entry arg7 ![4] inb_S8_S1_4))) (.dma (entry arg8 ![6] inb_S8_S1_6)) (harg5.wordExact_slice rfl _ wordsi8_S8x512x512_S2x512x512_2_0_0) (harg5.wordExact_slice rfl _ wordsi8_S8x512x512_S2x512x512_6_0_0) ⟨⟨rfl, Or.inl rfl⟩, trivial⟩)
  let w3 : Vec F S1x512x512 .i8 ← Prog.lift (.load arg5 (Rect.unit (s := S8x512x512) ![3, 0, 0] S1x512x512.size inb_S8x512x512_S1x512x512_3_0_0).toLoadRect (View.loadsAt_vmem h_S1x512x512))
  chunk arg0 arg2 arg3 arg4 arg6 harg6 mask (k0_off2 d 2#32) (k0_off2_inb d 1) (shapeCast S512x512 w3 shapeCasts_S1x512x512_S512x512)

/-- The partner's block and its left neighbour's. -/
def stage3 (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) (d : Dev nD) :
    Prog (TpuEff nD τ sig (Elt F) Λ₀ .tc) PUnit := do
  Prog.lift (.waitDma2 (entry arg8 ![4] inb_S8_S1_4) (slot arg5 ![4, 0, 0] inb_S8x512x512_S1x512x512_4_0_0) (slot arg5 ![4, 0, 0] inb_S8x512x512_S1x512x512_4_0_0) ((harg5.wordExact_slice rfl _ wordsi8_S8x512x512_S1x512x512_4_0_0).reshape _ _) ((harg5.wordExact_slice rfl _ wordsi8_S8x512x512_S1x512x512_4_0_0).reshape _ _))
  let w4 : Vec F S1x512x512 .i8 ← Prog.lift (.load arg5 (Rect.unit (s := S8x512x512) ![4, 0, 0] S1x512x512.size inb_S8x512x512_S1x512x512_4_0_0).toLoadRect (View.loadsAt_vmem h_S1x512x512))
  chunk arg0 arg2 arg3 arg4 arg6 harg6 mask (k0_off3 d) (k0_off3_inb d) (shapeCast S512x512 w4 shapeCasts_S1x512x512_S512x512)
  Prog.lift (.waitDma2 (entry arg8 ![5] inb_S8_S1_5) (slot arg5 ![5, 0, 0] inb_S8x512x512_S1x512x512_5_0_0) (slot arg5 ![5, 0, 0] inb_S8x512x512_S1x512x512_5_0_0) ((harg5.wordExact_slice rfl _ wordsi8_S8x512x512_S1x512x512_5_0_0).reshape _ _) ((harg5.wordExact_slice rfl _ wordsi8_S8x512x512_S1x512x512_5_0_0).reshape _ _))
  let w5 : Vec F S1x512x512 .i8 ← Prog.lift (.load arg5 (Rect.unit (s := S8x512x512) ![5, 0, 0] S1x512x512.size inb_S8x512x512_S1x512x512_5_0_0).toLoadRect (View.loadsAt_vmem h_S1x512x512))
  chunk arg0 arg2 arg3 arg4 arg6 harg6 mask (k0_off4 d 3#32) (k0_off4_inb d 2) (shapeCast S512x512 w5 shapeCasts_S1x512x512_S512x512)

/-- The last two blocks, which come together. -/
def stage4 (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) (d : Dev nD) :
    Prog (TpuEff nD τ sig (Elt F) Λ₀ .tc) PUnit := do
  Prog.lift (.waitDma2 (entry arg8 ![6] inb_S8_S1_6) (pair arg5 ![6, 0, 0] inb_S8x512x512_S2x512x512_6_0_0) (pair arg5 ![6, 0, 0] inb_S8x512x512_S2x512x512_6_0_0) (harg5.wordExact_slice rfl _ wordsi8_S8x512x512_S2x512x512_6_0_0) (harg5.wordExact_slice rfl _ wordsi8_S8x512x512_S2x512x512_6_0_0))
  let w6 : Vec F S1x512x512 .i8 ← Prog.lift (.load arg5 (Rect.unit (s := S8x512x512) ![6, 0, 0] S1x512x512.size inb_S8x512x512_S1x512x512_6_0_0).toLoadRect (View.loadsAt_vmem h_S1x512x512))
  chunk arg0 arg2 arg3 arg4 arg6 harg6 mask (k0_off4 d 1#32) (k0_off4_inb d 0) (shapeCast S512x512 w6 shapeCasts_S1x512x512_S512x512)
  let w7 : Vec F S1x512x512 .i8 ← Prog.lift (.load arg5 (Rect.unit (s := S8x512x512) ![7, 0, 0] S1x512x512.size inb_S8x512x512_S1x512x512_7_0_0).toLoadRect (View.loadsAt_vmem h_S1x512x512))
  chunk arg0 arg2 arg3 arg4 arg6 harg6 mask (k0_off4 d 2#32) (k0_off4_inb d 1) (shapeCast S512x512 w7 shapeCasts_S1x512x512_S512x512)

/-- The six copies the device sent, waited for. -/
def stage5 (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) :
    Prog (TpuEff nD τ sig (Elt F) Λ₀ .tc) PUnit := do
  Prog.lift (.waitDma2 (entry arg7 ![0] inb_S8_S1_0) (slot arg5 ![1, 0, 0] inb_S8x512x512_S1x512x512_1_0_0) arg1 ((harg5.wordExact_slice rfl _ wordsi8_S8x512x512_S1x512x512_1_0_0).reshape _ _) harg1.wordExact)
  Prog.lift (.waitDma2 (entry arg7 ![1] inb_S8_S1_1) (slot arg5 ![2, 0, 0] inb_S8x512x512_S1x512x512_2_0_0) arg1 ((harg5.wordExact_slice rfl _ wordsi8_S8x512x512_S1x512x512_2_0_0).reshape _ _) harg1.wordExact)
  Prog.lift (.waitDma2 (entry arg7 ![5] inb_S8_S1_5) (slot arg5 ![4, 0, 0] inb_S8x512x512_S1x512x512_4_0_0) arg1 ((harg5.wordExact_slice rfl _ wordsi8_S8x512x512_S1x512x512_4_0_0).reshape _ _) harg1.wordExact)
  Prog.lift (.waitDma2 (entry arg7 ![2] inb_S8_S1_2) (slot arg5 ![3, 0, 0] inb_S8x512x512_S1x512x512_3_0_0) (slot arg5 ![1, 0, 0] inb_S8x512x512_S1x512x512_1_0_0) ((harg5.wordExact_slice rfl _ wordsi8_S8x512x512_S1x512x512_3_0_0).reshape _ _) ((harg5.wordExact_slice rfl _ wordsi8_S8x512x512_S1x512x512_1_0_0).reshape _ _))
  Prog.lift (.waitDma2 (entry arg7 ![3] inb_S8_S1_3) (slot arg5 ![5, 0, 0] inb_S8x512x512_S1x512x512_5_0_0) (slot arg5 ![1, 0, 0] inb_S8x512x512_S1x512x512_1_0_0) ((harg5.wordExact_slice rfl _ wordsi8_S8x512x512_S1x512x512_5_0_0).reshape _ _) ((harg5.wordExact_slice rfl _ wordsi8_S8x512x512_S1x512x512_1_0_0).reshape _ _))
  Prog.lift (.waitDma2 (entry arg7 ![4] inb_S8_S1_4) (pair arg5 ![6, 0, 0] inb_S8x512x512_S2x512x512_6_0_0) (pair arg5 ![2, 0, 0] inb_S8x512x512_S2x512x512_2_0_0) (harg5.wordExact_slice rfl _ wordsi8_S8x512x512_S2x512x512_6_0_0) (harg5.wordExact_slice rfl _ wordsi8_S8x512x512_S2x512x512_2_0_0))

/-- The whole body. -/
def body (arg0 : Memref sig .tc .vmem S512x512 .bf16) (harg0 : arg0.IsWhole) (arg1 : Memref sig .tc .vmem S512x512 .i8) (harg1 : arg1.IsWhole) (arg2 : Memref sig .tc .vmem S8x8x256x64 .bf16) (harg2 : arg2.IsWhole) (arg3 : Memref sig .tc .vmem S8x8x256x64 .bf16) (harg3 : arg3.IsWhole) (arg4 : Memref sig .tc .vmem S512x512 .f32) (harg4 : arg4.IsWhole) (arg5 : Memref sig .tc .vmem S8x512x512 .i8) (harg5 : arg5.IsWhole) (arg6 : Memref sig .tc .vmem S512x256 .bf16) (harg6 : arg6.IsWhole) (arg7 : DmaSems sig S8) (arg8 : DmaSems sig S8) :
    Prog (TpuEff nD τ sig (Elt F) Λ₀ .tc) PUnit := do
  let d : Dev nD ← Prog.lift .deviceId
  stage0 arg0 harg0 arg1 harg1 arg2 harg2 arg3 harg3 arg4 harg4 arg5 harg5 arg6 harg6 arg7 arg8 d
  stage1 arg0 harg0 arg1 harg1 arg2 harg2 arg3 harg3 arg4 harg4 arg5 harg5 arg6 harg6 arg7 arg8 d
  stage2 arg0 harg0 arg1 harg1 arg2 harg2 arg3 harg3 arg4 harg4 arg5 harg5 arg6 harg6 arg7 arg8 d
  stage3 arg0 harg0 arg1 harg1 arg2 harg2 arg3 harg3 arg4 harg4 arg5 harg5 arg6 harg6 arg7 arg8 d
  stage4 arg0 harg0 arg1 harg1 arg2 harg2 arg3 harg3 arg4 harg4 arg5 harg5 arg6 harg6 arg7 arg8 d
  stage5 arg0 harg0 arg1 harg1 arg2 harg2 arg3 harg3 arg4 harg4 arg5 harg5 arg6 harg6 arg7 arg8

set_option maxRecDepth 100000 in
set_option maxHeartbeats 4000000 in
/-- The printed body is `body`. -/
theorem body_eq : cc0_body (F := F) = body (F := F) := by
  rw [cc0_body_eq_skeleton]
  rfl

end Cert.KernelIdeal.Body

end
-- ==== Proof.Chunk.lean ====
module

public import proofs.«01_k».proof.Proof.Body
public import Idealize.ShloMosaic.Lib.Pipeline.Regions
public import Idealize.ShloMosaic.Lib.Pipeline.Kit
public import Idealize.ShloMosaic.Lib.Pipeline.FrameBody
public import Idealize.ShloMosaic.Lib.Tactic
public import Idealize.ShloMosaic.Lib.VecWindow
public import Idealize.ShloMosaic.Lib.Ring
public import Idealize.ShloMosaic.Lib.Transfers
public import Idealize.ShloMosaic.Lib.Rounds

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

abbrev UU : Type := UR sig nD τ × URounds (GSem nD τ sig) (Fin 3)

local notation "𝕄" => MT nD τ sig Unit (Elt F) ℕ UU ℕ

abbrev 𝒱₀ : Variants := Variants.none

/-- One head's output: head `i` of the keys and values, at the queries of batch `b` and head `h`. -/
def headOut (q : FVec F S512x256 .bf16) (kc vc : FVec F S8x256x64 .bf16) (o : Fin 2 → Nat) (so : S512x256.Slices o S256x64)
    (i : Fin 3 → Nat) (si : S8x256x64.Slices i S1x256x64) : FVec F S256x64 .bf16 :=
  attend mask (extractStridedSlice S256x64 o q so) (extractStridedSlice S1x256x64 i kc si) (extractStridedSlice S1x256x64 i vc si)

/-- The eight stores of a block's heads, last first. -/
def pieces (q : FVec F S512x256 .bf16) (kc vc : FVec F S8x256x64 .bf16) : List (View.Piece (Elt F) S512x256 .bf16) :=
  [⟨Rect.unit (s := S512x256) ![256, 192] S256x64.size inb_S512x256_S256x64_256_192,
     headOut q kc vc ![256, 192] slices_S512x256_o256_192_S256x64 ![7, 0, 0] slices_S8x256x64_o7_0_0_S1x256x64⟩,
    ⟨Rect.unit (s := S512x256) ![256, 128] S256x64.size inb_S512x256_S256x64_256_128,
     headOut q kc vc ![256, 128] slices_S512x256_o256_128_S256x64 ![6, 0, 0] slices_S8x256x64_o6_0_0_S1x256x64⟩,
    ⟨Rect.unit (s := S512x256) ![256, 64] S256x64.size inb_S512x256_S256x64_256_64,
     headOut q kc vc ![256, 64] slices_S512x256_o256_64_S256x64 ![5, 0, 0] slices_S8x256x64_o5_0_0_S1x256x64⟩,
    ⟨Rect.unit (s := S512x256) ![256, 0] S256x64.size inb_S512x256_S256x64_256_0,
     headOut q kc vc ![256, 0] slices_S512x256_o256_0_S256x64 ![4, 0, 0] slices_S8x256x64_o4_0_0_S1x256x64⟩,
    ⟨Rect.unit (s := S512x256) ![0, 192] S256x64.size inb_S512x256_S256x64_0_192,
     headOut q kc vc ![0, 192] slices_S512x256_o0_192_S256x64 ![3, 0, 0] slices_S8x256x64_o3_0_0_S1x256x64⟩,
    ⟨Rect.unit (s := S512x256) ![0, 128] S256x64.size inb_S512x256_S256x64_0_128,
     headOut q kc vc ![0, 128] slices_S512x256_o0_128_S256x64 ![2, 0, 0] slices_S8x256x64_o2_0_0_S1x256x64⟩,
    ⟨Rect.unit (s := S512x256) ![0, 64] S256x64.size inb_S512x256_S256x64_0_64,
     headOut q kc vc ![0, 64] slices_S512x256_o0_64_S256x64 ![1, 0, 0] slices_S8x256x64_o1_0_0_S1x256x64⟩,
    ⟨Rect.unit (s := S512x256) ![0, 0] S256x64.size inb_S512x256_S256x64_0_0,
     headOut q kc vc ![0, 0] slices_S512x256_o0_0_S256x64 ![0, 0, 0] slices_S8x256x64_o0_0_0_S1x256x64⟩]

/-- The eight stores fill the heads' buffer. -/
theorem pieces_cover (q : FVec F S512x256 .bf16) (kc vc : FVec F S8x256x64 .bf16) :
    ∀ y : S512x256.Idx, ∃ p ∈ pieces q kc vc, y ∈ p.1.set :=
  View.cover_of_tiledL _ S256x64.size rfl

/-- The heads' buffer after a block's eight heads, each head's output in its place. -/
def ctxOf (q : FVec F S512x256 .bf16) (kc vc : FVec F S8x256x64 .bf16) : FVec F S512x256 .bf16 :=
  View.canon (pieces q kc vc)

/-- Reading a whole block from its first element gives the block. -/
theorem ld_full {e : EltTy} (S : Shape) (o : Fin S.rank → Nat) (inb : ∀ a, o a + S.size a ≤ S.size a) (X : S.Idx → Elt F e) :
    View.ld (Val := Elt F) X (Rect.unit o S.size inb) = X := by
  funext y
  exact congrArg X (funext fun a => Fin.ext (by have := inb a; show o a + 1 * (y a).val = (y a).val; omega))

/-- The result after the work on block `wb`, from the result `out` before it. -/
def step (x : Vec F S512x512 .bf16) (k v : Vec F S1x8x256x64 .bf16) (wb : IVec S512x512 8) (out : Vec F S512x512 .f32) : Vec F S512x512 .f32 :=
  accumulate wb out (ctxOf (queries wb x) (shapeCast S8x256x64 k shapeCasts_S1x8x256x64_S8x256x64) (shapeCast S8x256x64 v shapeCasts_S1x8x256x64_S8x256x64))

set_option maxHeartbeats 2000000 in
/-- The work on one block, run: the result buffer goes from `out` to `step … out`, whatever the heads' buffer holds, and the
    operands are left as they were. -/
theorem chunk_run (c : Dev nD) (arg0 : Memref sig .tc .vmem S512x512 .bf16) (arg2 : Memref sig .tc .vmem S8x8x256x64 .bf16)
    (arg3 : Memref sig .tc .vmem S8x8x256x64 .bf16) (arg4 : Memref sig .tc .vmem S512x512 .f32) (arg6 : Memref sig .tc .vmem S512x256 .bf16)
    (harg6 : arg6.IsWhole) (o : Fin 4 → Nat) (inb : ∀ a, o a + S1x8x256x64.size a ≤ S8x8x256x64.size a) (wb : IVec S512x512 8)
    (x : Vec F S512x512 .bf16) (k v : Vec F S8x8x256x64 .bf16) (out : Vec F S512x512 .f32) (K : PUnit → sProp 𝕄) :
    iprop(owns (c : Thread nD τ) arg0 fullShare x ∗ owns (c : Thread nD τ) arg2 fullShare k ∗ owns (c : Thread nD τ) arg3 fullShare v
        ∗ owns (c : Thread nD τ) arg4 fullShare out ∗ (∃ d, owns (c : Thread nD τ) arg6 fullShare d)
        ∗ (iprop(owns (c : Thread nD τ) arg0 fullShare x ∗ owns (c : Thread nD τ) arg2 fullShare k ∗ owns (c : Thread nD τ) arg3 fullShare v
          ∗ owns (c : Thread nD τ) arg4 fullShare (step x (View.ld k (Rect.unit o S1x8x256x64.size inb)) (View.ld v (Rect.unit o S1x8x256x64.size inb)) wb out)
          ∗ (∃ d, owns (c : Thread nD τ) arg6 fullShare d)) -∗ K ⟨⟩))
      ⊢ wp frame (wpE (defs₀ (F := F)) 𝒱₀ c none) Set.univ
          (chunk arg0 arg2 arg3 arg4 arg6 harg6 mask o inb wb) K := by
  unfold chunk heads put
  unfold owns
  iintro ⟨⟨%f0, %h0, H0⟩, ⟨%f2, %h2, H2⟩, ⟨%f3, %h3, H3⟩, ⟨%f4, %h4, H4⟩, ⟨%d6, %f6, %h6, H6⟩, Hk⟩
  sl_exec
  sl_step
  iapply Hk
  isplitl [H0]
  · iexists f0; isplitr; swap; · iexact H0
    ipureintro; exact h0
  isplitl [H2]
  · iexists f2; isplitr; swap; · iexact H2
    ipureintro; exact h2
  isplitl [H3]
  · iexists f3; isplitr; swap; · iexact H3
    ipureintro; exact h3
  isplitl [H4]
  · iexists _; isplitr; swap; · iexact H4
    ipureintro
    refine (View.read_writes_full _ _ _ _ _).trans ?_
    have hx : View.readAt (Elt F) arg0.view (Rect.unit (s := S512x512) ![0, 0] S512x512.size inb_S512x512_S512x512_0_0).toLoadRect f0 = x :=
      (ld_full S512x512 _ _ _).trans h0
    have ho : View.readAt (Elt F) arg4.view (Rect.unit (s := S512x512) ![0, 0] S512x512.size inb_S512x512_S512x512_0_0).toLoadRect f4 = out :=
      (ld_full S512x512 _ _ _).trans h4
    have hc : chunk_run.sl.ctx c arg0 arg2 arg3 arg6 o inb wb f0 f2 f3
        = ctxOf (queries wb x) (shapeCast S8x256x64 (View.ld k (Rect.unit o S1x8x256x64.size inb)) shapeCasts_S1x8x256x64_S8x256x64)
            (shapeCast S8x256x64 (View.ld v (Rect.unit o S1x8x256x64.size inb)) shapeCasts_S1x8x256x64_S8x256x64) := by
      subst h2 h3
      rw [← hx]
      exact (View.readCov_eq_canon_ld _ _ _ (pieces_cover _ _ _)).trans (ld_full S512x256 _ _ _)
    rw [ho, hc]; rfl
  · iexists _, _; isplitr; swap; · iexact H6
    ipureintro; rfl

end Cert.KernelIdeal.Body

end
-- ==== Proof.Slots.lean ====
module

public import proofs.«01_k».proof.Proof.Chunk
public import Idealize.ShloMosaic.Lib.ValueLayout

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F] [Named F]

local notation "𝕄" => MT nD τ sig Unit (Elt F) ℕ UU ℕ

/-! # The devices, and the gather buffer's slots -/

/-- The left neighbour in the device's plane of four. -/
def left (c : Dev nD) : Dev nD := ⟨(c.val / 4 * 4 + (c.val % 4 + 3) % 4) % 8, Nat.mod_lt _ (by decide)⟩
/-- The right neighbour in the device's plane of four. -/
def right (c : Dev nD) : Dev nD := ⟨(c.val / 4 * 4 + (c.val % 4 + 1) % 4) % 8, Nat.mod_lt _ (by decide)⟩
/-- The device at the same place of the other plane. -/
def part (c : Dev nD) : Dev nD := ⟨(c.val + 4) % 8, Nat.mod_lt _ (by decide)⟩

theorem left_right (c : Dev nD) : left (right c) = c := by revert c; decide
theorem right_left (c : Dev nD) : right (left c) = c := by revert c; decide
theorem part_part (c : Dev nD) : part (part c) = c := by revert c; decide
theorem left_left (c : Dev nD) : left (left c) = right (right c) := by revert c; decide

theorem dev1_eq (c : Dev nD) : (⟨k0_dev1 c, k0_dev1_lt c⟩ : Dev nD) = left c := Fin.ext (by revert c; decide +kernel)
theorem dev2_eq (c : Dev nD) : (⟨k0_dev2 c, k0_dev2_lt c⟩ : Dev nD) = right c := Fin.ext (by revert c; decide +kernel)
theorem dev3_eq (c : Dev nD) : (⟨k0_dev3 c, k0_dev3_lt c⟩ : Dev nD) = part c := Fin.ext (by revert c; decide +kernel)
theorem dev4_eq (c : Dev nD) : (⟨k0_dev4 c, k0_dev4_lt c⟩ : Dev nD) = right c := Fin.ext (by revert c; decide +kernel)
theorem dev5_eq (c : Dev nD) : (⟨k0_dev5 c, k0_dev5_lt c⟩ : Dev nD) = left c := Fin.ext (by revert c; decide +kernel)
theorem dev6_eq (c : Dev nD) : (⟨k0_dev6 c, k0_dev6_lt c⟩ : Dev nD) = part c := Fin.ext (by revert c; decide +kernel)
theorem dev7_eq (c : Dev nD) : (⟨k0_dev7 c, k0_dev7_lt c⟩ : Dev nD) = part c := Fin.ext (by revert c; decide +kernel)
theorem dev8_eq (c : Dev nD) : (⟨k0_dev8 c, k0_dev8_lt c⟩ : Dev nD) = right c := Fin.ext (by revert c; decide +kernel)
theorem dev9_eq (c : Dev nD) : (⟨k0_dev9 c, k0_dev9_lt c⟩ : Dev nD) = part c := Fin.ext (by revert c; decide +kernel)

/-- Whose weight block slot `j` of a device's gather buffer receives. -/
def org (c : Dev nD) : Fin 8 → Dev nD
  | 0 => c | 1 => left c | 2 => right c | 3 => right (right c)
  | 4 => part c | 5 => left (part c) | 6 => right (part c) | 7 => right (right (part c))

/-- The keys and values a device reads for slot `j` are those of the heads of `org c j`. -/
theorem off_eq (c : Dev nD) :
    k0_off1 c = ![(org c 0).val, 0, 0, 0] ∧ k0_off2 c 3#32 = ![(org c 1).val, 0, 0, 0] ∧ k0_off2 c 1#32 = ![(org c 2).val, 0, 0, 0]
      ∧ k0_off2 c 2#32 = ![(org c 3).val, 0, 0, 0] ∧ k0_off3 c = ![(org c 4).val, 0, 0, 0] ∧ k0_off4 c 3#32 = ![(org c 5).val, 0, 0, 0]
      ∧ k0_off4 c 1#32 = ![(org c 6).val, 0, 0, 0] ∧ k0_off4 c 2#32 = ![(org c 7).val, 0, 0, 0] := by
  revert c; decide +kernel

/-- The gather buffer and the device's own block, whole. -/
abbrev gM : Memref sig .tc .vmem S8x512x512 .i8 := Memref.whole cc0_scratch0
abbrev oM : Memref sig .tc .vmem S512x512 .i8 := Memref.whole cc0_stg1_0

/-- The elements of slots `a` up to `b` of the gather buffer. -/
def rows (a b : ℕ) : Finset S8x512x512.Idx := Finset.univ.filter fun i => a ≤ (i 0).val ∧ (i 0).val < b

theorem mem_rows {a b : ℕ} {i : S8x512x512.Idx} : i ∈ rows a b ↔ a ≤ (i 0).val ∧ (i 0).val < b := by simp [rows]

theorem rows_union {a b d : ℕ} (h₁ : a ≤ b) (h₂ : b ≤ d) : rows a d = rows a b ∪ rows b d := by
  ext i; rw [Finset.mem_union, mem_rows, mem_rows, mem_rows]; omega
theorem rows_disjoint (a b d : ℕ) : Disjoint (rows a b) (rows b d) := by
  rw [Finset.disjoint_left]; intro i h₁ h₂; rw [mem_rows] at h₁ h₂; omega
theorem rows_all : rows 0 8 = Finset.univ := by
  ext i; rw [mem_rows]; exact ⟨fun _ => Finset.mem_univ _, fun _ => ⟨Nat.zero_le _, (i 0).isLt⟩⟩

/-- A rectangle of `n` whole slots from slot `a` on is those slots' elements. -/
theorem rect_rows (a n : ℕ) (inb : ∀ x, (![a, 0, 0] : Fin 3 → ℕ) x + (![n, 512, 512] : Fin 3 → ℕ) x ≤ S8x512x512.size x) :
    (Rect.unit (s := S8x512x512) ![a, 0, 0] ![n, 512, 512] inb).set = rows a (a + n) := by
  ext i
  rw [Rect.mem_set_unit, mem_rows]
  constructor
  · intro h; exact h 0
  · intro h x
    have h1 := (i 1).isLt; have h2 := (i 2).isLt
    match x with
    | 0 => exact h
    | 1 => exact ⟨Nat.zero_le _, by show (i 1).val < 0 + 512; rw [Nat.zero_add]; exact h1⟩
    | 2 => exact ⟨Nat.zero_le _, by show (i 2).val < 0 + 512; rw [Nat.zero_add]; exact h2⟩

theorem slot_set (a : ℕ) (inb : ∀ x, (![a, 0, 0] : Fin 3 → ℕ) x + S1x512x512.size x ≤ S8x512x512.size x) :
    (slot gM ![a, 0, 0] inb).view.set = rows a (a + 1) := by
  rw [View.set_reshape]
  exact (View.set_slice_whole _ _).trans (rect_rows a 1 inb)
theorem pair_set (a : ℕ) (inb : ∀ x, (![a, 0, 0] : Fin 3 → ℕ) x + S2x512x512.size x ≤ S8x512x512.size x) :
    (pair gM ![a, 0, 0] inb).view.set = rows a (a + 2) :=
  (View.set_slice_whole _ _).trans (rect_rows a 2 inb)
theorem own_set : oM.view.set = Finset.univ := View.set_whole _

/-- What the gather buffer of device `c` holds when every block has come: in slot `j`, the block of `org c j`. -/
def gath (wb : Dev nD → Vec F S512x512 .i8) (c : Dev nD) : S8x512x512.Idx → Elt F .i8 :=
  fun i => wb (org c (i 0)) (ix2 (i 1) (i 2))

/-- Two contents that a view reads alike agree on its elements. -/
theorem eqOn_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_bijective _).1 this

/-- Slot `j` of the gathered buffer reads the block of `org c j`. -/
theorem slot_read (wb : Dev nD → Vec F S512x512 .i8) (c : Dev nD) (j : Fin 8)
    (inb : ∀ x, (![j.val, 0, 0] : Fin 3 → ℕ) x + S1x512x512.size x ≤ S8x512x512.size x) :
    (slot gM ![j.val, 0, 0] inb).view.read (Elt F) (gath wb c) = wb (org c j) := by
  funext x
  rw [eq_ix2 x]
  show gath wb c ((Rect.unit (s := S8x512x512) ![j.val, 0, 0] S1x512x512.size inb).emb (Shape.reshapeEquiv _ (ix2 (x 0) (x 1)))) = _
  have hx := reshapeEquiv_ix2_1ab (a := 512) (b := 512) (Shape.Squeezes.numel_eq squeezes_S1x512x512_S512x512) (x 0) (x 1)
  refine (congrArg (fun z => gath wb c ((Rect.unit (s := S8x512x512) ![j.val, 0, 0] S1x512x512.size inb).emb z)) hx).trans ?_
  show gath wb c ((Rect.unit (s := S8x512x512) ![j.val, 0, 0] S1x512x512.size inb).emb (ix3 (⟨0, Nat.one_pos⟩ : Fin 1) (x 0) (x 1))) = _
  unfold gath
  have h0 : ((Rect.unit (s := S8x512x512) ![j.val, 0, 0] S1x512x512.size inb).emb (ix3 (⟨0, Nat.one_pos⟩ : Fin 1) (x 0) (x 1))) 0 = j :=
    Fin.ext (by show j.val + 1 * 0 = j.val; omega)
  have h1 : ((Rect.unit (s := S8x512x512) ![j.val, 0, 0] S1x512x512.size inb).emb (ix3 (⟨0, Nat.one_pos⟩ : Fin 1) (x 0) (x 1))) 1 = x 0 :=
    Fin.ext (by show 0 + 1 * (x 0).val = (x 0).val; omega)
  have h2 : ((Rect.unit (s := S8x512x512) ![j.val, 0, 0] S1x512x512.size inb).emb (ix3 (⟨0, Nat.one_pos⟩ : Fin 1) (x 0) (x 1))) 2 = x 1 :=
    Fin.ext (by show 0 + 1 * (x 1).val = (x 1).val; omega)
  rw [h0, h1, h2]
  rfl

/-- The pair of slots 2 and 3 of device `c` reads what the pair 6 and 7 of its partner shall. -/
theorem pair_read (wb : Dev nD → Vec F S512x512 .i8) (c : Dev nD) :
    (pair gM ![6, 0, 0] inb_S8x512x512_S2x512x512_6_0_0).view.read (Elt F) (gath wb (part c))
      = (pair gM ![2, 0, 0] inb_S8x512x512_S2x512x512_2_0_0).view.read (Elt F) (gath wb c) := by
  funext x
  show gath wb (part c) ((Rect.unit (s := S8x512x512) ![6, 0, 0] S2x512x512.size _).emb x)
    = gath wb c ((Rect.unit (s := S8x512x512) ![2, 0, 0] S2x512x512.size _).emb x)
  unfold gath
  have e6 : ((Rect.unit (s := S8x512x512) ![6, 0, 0] S2x512x512.size inb_S8x512x512_S2x512x512_6_0_0).emb x 0).val = 6 + (x 0).val := by
    show 6 + 1 * (x 0).val = _; omega
  have e2 : ((Rect.unit (s := S8x512x512) ![2, 0, 0] S2x512x512.size inb_S8x512x512_S2x512x512_2_0_0).emb x 0).val = 2 + (x 0).val := by
    show 2 + 1 * (x 0).val = _; omega
  have hx : (x 0).val < 2 := (x 0).isLt
  have ho : org (part c) ((Rect.unit (s := S8x512x512) ![6, 0, 0] S2x512x512.size inb_S8x512x512_S2x512x512_6_0_0).emb x 0)
      = org c ((Rect.unit (s := S8x512x512) ![2, 0, 0] S2x512x512.size inb_S8x512x512_S2x512x512_2_0_0).emb x 0) := by
    have key : ∀ (c : Dev nD) (y : Fin 2) (a b : Fin 8), a.val = 6 + y.val → b.val = 2 + y.val → org (part c) a = org c b := by decide
    exact key c ⟨(x 0).val, hx⟩ _ _ e6 e2
  rw [ho]
  rfl

end Cert.KernelIdeal.Body

end
-- ==== Proof.Proto.lean ====
module

public import proofs.«01_k».proof.Proof.Slots

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type}

local notation "𝕄" => MT nD τ sig Unit (Elt F) ℕ UU ℕ

/-! # The protocol: cells, what each pays, levels, debts -/

/-- The protocol's copy of the rounds algebra, beside the pipeline's. -/
abbrev ER : Emb (URounds (GSem nD τ sig) (Fin 3)) (MT nD τ sig Unit (Elt F) ℕ UU ℕ) := embR

/-- The region's own transfer semaphores: eight for sending, eight for receiving. -/
abbrev dsem (k : Fin 16) : DmaSem sig := ⟨5 + k.val, by have := k.isLt; show _ < 21; omega⟩
abbrev osem : Fin 16 → SemLoc sig := fun k => .dma (dsem k)
abbrev barCell (c : Dev nD) : GSem nD τ sig := ((c : Thread nD τ), .reg bar)
abbrev cell (c : Dev nD) (k : Fin 16) : GSem nD τ sig := ((c : Thread nD τ), osem k)

/-- The credit of a copy of one block, and of a pair of blocks. -/
abbrev N1 : ℕ := oM.view.dmaCredit
abbrev N2 : ℕ := (pair gM ![6, 0, 0] inb_S8x512x512_S2x512x512_6_0_0).view.dmaCredit
theorem N1_pos : 0 < N1 := View.dmaCredit_pos _ (by decide)
theorem N2_pos : 0 < N2 := View.dmaCredit_pos _ (by decide)

/-- Whether cell `k` is used at all; whether it is one another device's copy credits; what one copy credits it with. -/
def used (k : Fin 16) : Bool := k.val ≤ 5 || (9 ≤ k.val && k.val ≤ 14)
def recvs (k : Fin 16) : Bool := 9 ≤ k.val && k.val ≤ 14
def amt (k : Fin 16) : ℕ := if k.val = 4 ∨ k.val = 14 then N2 else N1

/-- Elements `S` of device `c`'s gather buffer, and device `c`'s own block. -/
abbrev gp (c : Dev nD) (S : Finset S8x512x512.Idx) (q : PosShare TreeShare) (f : S8x512x512.Idx → Elt F .i8) : sProp 𝕄 :=
  gM.view.loc (c : Thread nD τ) ↦[S]{q} f
abbrev ob (c : Dev nD) (q : PosShare TreeShare) (f : S512x512.Idx → Elt F .i8) : sProp 𝕄 :=
  oM.view.loc (c : Thread nD τ) ↦[Finset.univ]{q} f

variable (wb : Dev nD → Vec F S512x512 .i8)

/-- What a device's barrier cell is paid: slots of the payer's gather buffer, and that the cells their copies credit are open. -/
def barPay (c : Dev nD) : Fin 3 → sProp 𝕄
  | 0 => iprop((∃ f, gp (right c) (rows 1 2) fullShare f) ∗ (∃ f, gp (right c) (rows 3 4) fullShare f)
      ∗ reached ER (cell (right c) 9) 0 ∗ reached ER (cell (right c) 11) 0)
  | 1 => iprop((∃ f, gp (left c) (rows 2 3) fullShare f) ∗ reached ER (cell (left c) 10) 0)
  | 2 => iprop((∃ f, gp (part c) (rows 4 5) fullShare f) ∗ (∃ f, gp (part c) (rows 5 6) fullShare f) ∗ (∃ f, gp (part c) (rows 6 8) fullShare f)
      ∗ reached ER (cell (part c) 12) 0 ∗ reached ER (cell (part c) 13) 0 ∗ reached ER (cell (part c) 14) 0)

/-- What a transfer cell is paid: a send cell the source back, a receive cell the slot filled. -/
def dmaPay (c : Dev nD) : ℕ → sProp 𝕄
  | 5 => ob c fullShare.left.left (wb c)
  | 6 => ob c fullShare.left.right (wb c)
  | 10 => ob c fullShare.right.left (wb c)
  | 8 => gp c (rows 1 2) fullShare.left (gath wb c)
  | 7 => gp c (rows 1 2) fullShare.right.left (gath wb c)
  | 9 => gp c (rows 2 4) fullShare.left (gath wb c)
  | 14 => gp c (rows 1 2) fullShare (gath wb c)
  | 15 => gp c (rows 2 3) fullShare (gath wb c)
  | 16 => gp c (rows 3 4) fullShare (gath wb c)
  | 17 => gp c (rows 4 5) fullShare (gath wb c)
  | 18 => gp c (rows 5 6) fullShare (gath wb c)
  | 19 => gp c (rows 6 8) fullShare (gath wb c)
  | _ => iprop(emp)

def dutiesOf : SemLoc sig → Finset (Fin 3)
  | .reg _ => Finset.univ
  | .dma s => if s.val ≤ 4 then ∅ else if s.val ≤ 10 ∨ (14 ≤ s.val ∧ s.val ≤ 19) then {0} else ∅
def amountOf : SemLoc sig → ℕ
  | .reg _ => 1
  | .dma s => if s.val = 9 ∨ s.val = 19 then N2 else N1
def payOf (c : Dev nD) : SemLoc sig → Fin 3 → sProp 𝕄
  | .reg _, d => barPay c d
  | .dma s, _ => dmaPay wb c s.val

/-- One round on every cell: three units on a barrier cell, one copy on every used transfer cell. -/
def rd : Rounds.Schedule (GSem nD τ sig) (Fin 3) 𝕄 where
  duties g r := if r = 0 ∧ g.1.2 = .tc then dutiesOf g.2 else ∅
  unitless _ := False
  amount g _ _ := amountOf g.2
  payload g _ d := payOf wb g.1.1 g.2 d
  amount_pos g _ _ _ := by
    obtain ⟨_, sm⟩ := g
    cases sm with
    | reg s => exact Nat.one_pos
    | dma s => show 0 < (if s.val = 9 ∨ s.val = 19 then N2 else N1); split; exact N2_pos; exact N1_pos

instance barPay_storable (c : Dev nD) (d : Fin 3) : BI.Storable (upEmb : UEmb _ 𝕄) (barPay (F := F) c d) := by
  unfold barPay; split <;> infer_instance
instance dmaPay_storable (c : Dev nD) (n : ℕ) : BI.Storable (upEmb : UEmb _ 𝕄) (dmaPay wb c n) := by
  unfold dmaPay; split <;> infer_instance
instance rd_storable (g : GSem nD τ sig) (r : ℕ) (d : Fin 3) : BI.Storable (upEmb : UEmb _ 𝕄) ((rd wb).payload g r d) := by
  obtain ⟨_, sm⟩ := g
  cases sm with
  | reg s => exact barPay_storable _ _
  | dma s => exact dmaPay_storable wb _ _

theorem duties_bar (c : Dev nD) : (rd wb).duties (barCell c) 0 = Finset.univ := by
  show (if (0 : ℕ) = 0 ∧ (c : Thread nD τ).2 = .tc then dutiesOf (.reg bar) else ∅) = _
  rw [if_pos ⟨rfl, rfl⟩]; rfl
theorem duties_cell (c : Dev nD) (k : Fin 16) : (rd wb).duties (cell c k) 0 = if used k then {0} else ∅ := by
  show (if (0 : ℕ) = 0 ∧ (c : Thread nD τ).2 = .tc then dutiesOf (osem k) else ∅) = _
  rw [if_pos ⟨rfl, rfl⟩]
  have hk : ¬ 5 + k.val ≤ 4 := by omega
  show (if 5 + k.val ≤ 4 then ∅ else if 5 + k.val ≤ 10 ∨ (14 ≤ 5 + k.val ∧ 5 + k.val ≤ 19) then ({0} : Finset (Fin 3)) else ∅) = _
  rw [if_neg hk]
  revert k; decide
theorem duties_used (c : Dev nD) {k : Fin 16} (h : used k = true) : (rd wb).duties (cell c k) 0 = {0} := by
  rw [duties_cell, if_pos h]
theorem duties_later (g : GSem nD τ sig) : ∀ r, 1 ≤ r → (rd wb).duties g r = ∅ :=
  fun r hr => if_neg fun h => by omega
theorem amount_bar (c : Dev nD) (d : Fin 3) : (rd wb).amount (barCell c) 0 d = 1 := rfl
theorem amount_cell (c : Dev nD) (k : Fin 16) (d : Fin 3) : (rd wb).amount (cell c k) 0 d = amt k := by
  show (if 5 + k.val = 9 ∨ 5 + k.val = 19 then N2 else N1) = if k.val = 4 ∨ k.val = 14 then N2 else N1
  have : (5 + k.val = 9 ∨ 5 + k.val = 19) ↔ (k.val = 4 ∨ k.val = 14) := by omega
  rw [if_congr this rfl rfl]
theorem expect_bar (c : Dev nD) : (rd wb).expect (barCell c) 0 = 3 := by
  unfold Schedule.expect Schedule.amountOf
  rw [duties_bar, Finset.sum_congr rfl fun d _ => amount_bar wb c d]
  rfl
theorem expect_cell (c : Dev nD) {k : Fin 16} (h : used k = true) : (rd wb).expect (cell c k) 0 = amt k := by
  unfold Schedule.expect Schedule.amountOf; rw [duties_used wb c h, Finset.sum_singleton, amount_cell]
theorem rest_bar (c : Dev nD) : bigSep ((rd wb).duties (barCell c) 0 \ ∅) (fun d => (rd wb).payload (barCell c) 0 d)
    = (iprop(barPay c 0 ∗ barPay c 1 ∗ barPay c 2) : sProp 𝕄) := by
  rw [Finset.sdiff_empty, duties_bar, show (Finset.univ : Finset (Fin 3)) = {0, 1, 2} from by decide,
    bigSep_insert (by decide), bigSep_insert (by decide), bigSep_singleton]
  rfl
theorem rest_cell (c : Dev nD) {k : Fin 16} (h : used k = true) :
    bigSep ((rd wb).duties (cell c k) 0 \ ∅) (fun d => (rd wb).payload (cell c k) 0 d) = dmaPay wb c (5 + k.val) := by
  rw [Finset.sdiff_empty, duties_used wb c h, bigSep_singleton]
  rfl

/-! ## Levels and debts -/

def L (g : GSem nD τ sig) : Finset Unit := if g.1.2 = .tc then {()} else ∅
/-- Barrier cells at 1, the receive cells above them in order, everything else at 0. -/
def lv (g : GSem nD τ sig) (_ : Unit) : ℕ := match g.2 with | .reg _ => 1 | .dma s => s.val - 12
theorem L_of_ne (g : GSem nD τ sig) (h : g.1.2 ≠ .tc) : L g = ∅ := if_neg h
theorem L_tc (c : Dev nD) (sm : SemLoc sig) : L ((c : Thread nD τ), sm) = {()} := if_pos rfl

/-- What a list of payments amounts to. -/
def owe : List (GSem nD τ sig × ℕ) → CellTallies nD τ sig Unit
  | [] => 0
  | a :: l => owe l + tallyAt a.1 () a.2

/-- What device `c` pays to others, in the order in which it pays it. -/
def debts (c : Dev nD) : List (GSem nD τ sig × ℕ) :=
  [(barCell (left c), 1), (barCell (right c), 1), (barCell (part c), 1), (cell (right c) 9, N1), (cell (left c) 10, N1),
    (cell (part c) 12, N1), (cell (part c) 13, N1), (cell (right c) 11, N1), (cell (part c) 14, N2)]

theorem owe_pos {l : List (GSem nD τ sig × ℕ)} {g : GSem nD τ sig} {u : Unit} (h : 0 < owe l g u) : ∃ a ∈ l, a.1 = g := by
  induction l with
  | nil => exact absurd h (Nat.lt_irrefl 0)
  | cons a l ih =>
    rw [show owe (a :: l) = owe l + tallyAt a.1 () a.2 from rfl, Pi.add_apply, Finsupp.add_apply] at h
    rcases Nat.add_pos_iff_pos_or_pos.mp h with h | h
    · obtain ⟨b, hb, e⟩ := ih h; exact ⟨b, List.mem_cons_of_mem _ hb, e⟩
    · rw [tallyAt_apply] at h
      by_cases hg : g = a.1 ∧ u = ()
      · exact ⟨a, List.mem_cons_self, hg.1.symm⟩
      · rw [if_neg hg] at h; exact absurd h (Nat.lt_irrefl 0)

/-- A device may wait on a cell when what it still owes lies at higher levels. -/
theorem mayWait (c : Dev nD) (sm : SemLoc sig) (l : List (GSem nD τ sig × ℕ))
    (h : ∀ a ∈ l, a.1.1.2 = .tc ∧ lv ((c : Thread nD τ), sm) () < lv a.1 ()) :
    (levAts L lv : sProp 𝕄) ⊢ MayWait (c : Thread nD τ) sm () (owe l) :=
  MayOwe.of_cut (L := L) (lev := lv) (lv ((c : Thread nD τ), sm) ())
    (fun p hp => by rw [Finset.mem_singleton.mp hp, L_tc]; exact Finset.mem_singleton_self _)
    (fun g u hg => by obtain ⟨a, ha, rfl⟩ := owe_pos hg; unfold L; rw [if_pos (h a ha).1]; exact Finset.mem_singleton_self _)
    (fun p hp => by rw [Finset.mem_singleton.mp hp])
    (fun g u hg => by obtain ⟨a, ha, rfl⟩ := owe_pos hg; exact (h a ha).2)

/-! ## The cells, and the records every device may consult -/

theorem osem_inj : Function.Injective osem := by
  intro a b h
  have : 5 + a.val = 5 + b.val := congrArg (fun s : DmaSem sig => s.val) (SemLoc.dma.inj h)
  exact Fin.ext (by omega)
theorem osem_ne_bar (k : Fin 16) : osem k ≠ .reg bar := fun h => by cases h

def barEmb : Dev nD ↪ GSem nD τ sig := ⟨fun c => barCell c, fun _ _ h => congrArg (fun g : GSem nD τ sig => g.1.1) h⟩
def scEmb : Dev nD × Fin 16 ↪ GSem nD τ sig :=
  ⟨fun ck => cell ck.1 ck.2, fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem bar_mem (c : Dev nD) : barCell c ∈ (barCells ∪ scCells : Finset (GSem nD τ sig)) :=
  Finset.mem_union_left _ (Finset.mem_map_of_mem barEmb (Finset.mem_univ c))
theorem cell_mem (c : Dev nD) (k : Fin 16) : cell c k ∈ (barCells ∪ scCells : Finset (GSem nD τ sig)) :=
  Finset.mem_union_right _ (Finset.mem_map_of_mem scEmb (Finset.mem_univ (c, k)))

/-- Every cell's invariant under one map of names, the levels, and round 0 of every barrier cell reached. -/
def records (κ : GSem nD τ sig → ℕ) : sProp 𝕄 :=
  iprop((bigSep (barCells ∪ scCells) fun g => cellInv ER (rd wb) (κ g) g) ∗ (bigSep barCells fun g => reached ER g 0) ∗ levAts L lv)
instance records_persistent (κ : GSem nD τ sig → ℕ) : BI.Persistent (records wb κ) := by unfold records; infer_instance

theorem inv_at (κ : GSem nD τ sig → ℕ) {g : GSem nD τ sig} (hg : g ∈ (barCells ∪ scCells : Finset (GSem nD τ sig))) :
    (bigSep (barCells ∪ scCells) fun g => (cellInv ER (rd wb) (κ g) g : sProp 𝕄)) ⊢ cellInv ER (rd wb) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))
theorem inv_bar (κ : GSem nD τ sig → ℕ) (c : Dev nD) : records wb κ ⊢ cellInv ER (rd wb) (κ (barCell c)) (barCell c) := by
  unfold records; iintro ⟨H, -, -⟩
  iapply (inv_at wb κ (bar_mem c)); iexact H
theorem inv_cell (κ : GSem nD τ sig → ℕ) (c : Dev nD) (k : Fin 16) : records wb κ ⊢ cellInv ER (rd wb) (κ (cell c k)) (cell c k) := by
  unfold records; iintro ⟨H, -, -⟩
  iapply (inv_at wb κ (cell_mem c k)); iexact H
theorem reached_bar (κ : GSem nD τ sig → ℕ) (c : Dev nD) : records wb κ ⊢ reached ER (barCell c) 0 := by
  unfold records; iintro ⟨-, H, -⟩
  iapply (reached_at (F := F) c); iexact H
theorem records_lev (κ : GSem nD τ sig → ℕ) : records wb κ ⊢ levAts L lv := by
  unfold records; iintro ⟨-, -, H⟩; iexact H

/-- Device `c` owing what the list says, whatever it has waited for. -/
abbrev owing (c : Dev nD) (l : List (GSem nD τ sig × ℕ)) : sProp 𝕄 := iprop(∃ W, owes (c : Thread nD τ) (owe l) W)

variable [FloatOps F] [Named F]

/-! ## One step each -/

/-- A wait for one of the device's own transfer cells: what was paid there comes with it. -/
theorem wait_run (κ : GSem nD τ sig → ℕ) (c : Dev nD) (k : Fin 16) (hk : used k = true) (l : List (GSem nD τ sig × ℕ))
    (hl : ∀ a ∈ l, a.1.1.2 = .tc ∧ lv (cell c k) () < lv a.1 ())
    {sp sp' : Space} {s s' : Shape} {e e' : EltTy} {src : Memref sig .tc sp' s' e'} {dst : Memref sig .tc sp s e}
    {hsrc : src.view.WordExact} {hdst : dst.view.WordExact} (sm : DmaSem sig) (hsm : sm = dsem k) (hN : dst.view.dmaCredit = amt k)
    (Q : PUnit → sProp 𝕄) :
    iprop(records wb κ ∗ cred (tallyAt (cell c k) () (amt k)) ∗ owing c l ∗ atPos ER (cell c k) 0 ∅ 0
        ∗ ((owing c l ∗ atPos ER (cell c k) 1 ∅ 0 ∗ dmaPay wb c (5 + k.val)) -∗ Q ⟨⟩))
      ⊢ wp frame (wpE (defs₀ (F := F)) 𝒱₀ (c : Thread nD τ) none) Set.univ (Prog.lift (.waitDma2 sm src dst hsrc hdst)) Q := by
  subst hsm
  unfold Prog.lift
  iintro ⟨#HR, Hc, ⟨%W, HO⟩, Hat, Hk⟩
  iapply (Rounds.wp_wait_rest_token 𝒱₀ ER (rd wb) (c : Thread nD τ) none (κ := κ (cell c k))
      (wpE_waitDma2_eq 𝒱₀ (c : Thread nD τ) none Set.univ) (Set.mem_univ _) () (O := owe l) (W := W) (R := 0) (m := 0) (T := ∅)
      ((Nat.zero_add _).trans (hN.trans (expect_cell wb c hk).symm))) $$ [Hc HO Hat]
  · isplitr; · iapply (inv_cell wb κ c k); iexact HR
    isplitl [Hc]; · rw [hN]; iexact Hc
    isplitl [HO]; · iexact HO
    isplitr
    · iapply (mayWait c (osem k) l hl); iapply (records_lev wb κ); iexact HR
    iexact Hat
  iintro ⟨HO, Hat, -, Hpay⟩
  ihave Hp := (Entails.of_eq (rest_cell wb c hk)) $$ Hpay
  rw [wp_ret]; imodintro
  iapply Hk
  isplitl [HO]; · iexists _; iexact HO
  isplitl [Hat]; · iexact Hat
  iexact Hp

/-- A copy to another device: its send cell is credited, the debt on the receiver's cell paid. -/
theorem send_run (κ : GSem nD τ sig → ℕ) (c c' : Dev nD) (k k' : Fin 16) (hk : used k = true) (hk' : used k' = true)
    (l : List (GSem nD τ sig × ℕ))
    {sp sp' : Space} {s : Shape} {e : EltTy} {src : Memref sig .tc sp s e} {dst : Memref sig .tc sp' s e}
    {hsrc : src.view.WordExact} {hdst : dst.view.WordExact} (d' : Dev nD) (hd : d' = c') (sm sm' : DmaSem sig) (hsm : sm = dsem k) (hsm' : sm' = dsem k')
    {hsc : dst.view.ref.isScScratch = false}
    {htyp : DmaTarget.Typed sp (.dma sm') ((.remote (Dev.tc d') dst (.dma sm) hsc : DmaTarget nD τ sig .tc sp' s e))}
    (q : PosShare TreeShare) (fs : Buf (Elt F) (src.view.loc (c : Thread nD τ))) (fd : Buf (Elt F) (dst.view.loc (c' : Thread nD τ)))
    (hN : dst.view.dmaCredit = amt k) (hN' : dst.view.dmaCredit = amt k')
    (hpay : (src.view.loc (c : Thread nD τ) ↦[src.view.set]{q} fs : sProp 𝕄) ⊢ dmaPay wb c (5 + k.val))
    (hpay' : (dst.view.loc (c' : Thread nD τ) ↦[dst.view.set]{fullShare} (dst.view.write (Elt F) fd (src.view.read (Elt F) fs) Finset.univ) : sProp 𝕄)
      ⊢ dmaPay wb c' (5 + k'.val))
    (Q : PUnit → sProp 𝕄) :
    iprop(records wb κ ∗ (src.view.loc (c : Thread nD τ) ↦[src.view.set]{q} fs) ∗ (dst.view.loc (c' : Thread nD τ) ↦[dst.view.set]{fullShare} fd)
        ∗ owing c ((cell c' k', amt k') :: l) ∗ dutyTok ER (cell c k) 0 0 ∗ reached ER (cell c k) 0
        ∗ dutyTok ER (cell c' k') 0 0 ∗ reached ER (cell c' k') 0
        ∗ ((cred (tallyAt (cell c k) () (amt k)) ∗ owing c l) -∗ Q ⟨⟩))
      ⊢ wp frame (wpE (defs₀ (F := F)) 𝒱₀ (c : Thread nD τ) none) Set.univ
          (Prog.lift (.enqueueDma src (.remote (Dev.tc d') dst (.dma sm) hsc) (.dma sm') hsrc hdst htyp)) Q := by
  subst hsm hsm' hd
  unfold Prog.lift
  iintro ⟨#HR, Hs, Hd, ⟨%W, HO⟩, Ht, Hr, Ht', Hr', Hk⟩
  iapply (Rounds.wp_send_pointsTo 𝒱₀ ER (rd wb) (c : Thread nD τ) none (c' := (d' : Thread nD τ)) (src := src) (dst := dst)
      (sS := .dma (dsem k)) (sem := .dma (dsem k')) (q := q) (fs := fs) (κ₁ := κ (cell c k)) (κ₂ := κ (cell d' k'))
      (r₁ := 0) (r₂ := 0) (d₁ := 0) (d₂ := 0) (fd := fd)
      (by rw [duties_used wb c hk]; exact Finset.mem_singleton_self _) (by rw [duties_used wb d' hk']; exact Finset.mem_singleton_self _)
      () () (amt k) hN (amount_cell wb c k 0) ((amount_cell wb d' k' 0).trans (hN'.symm.trans hN)) (owe l)
      (O₀ := owe ((cell d' k', amt k') :: l)) (by rw [show amt k = amt k' from hN.symm.trans hN']; rfl) (W := W) hpay hpay') $$ [Hs Hd HO Ht Hr Ht' Hr']
  · isplitr; · iapply (inv_cell wb κ c k); iexact HR
    isplitr; · iapply (inv_cell wb κ d' k'); iexact HR
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  rw [wp_ret]; imodintro
  iapply Hk
  isplitl [Hc]; · iexact Hc
  iexists W; iexact HO

/-- A unit for another device's barrier cell. -/
theorem signal_run (κ : GSem nD τ sig → ℕ) (c c' : Dev nD) (d : Fin 3) (l : List (GSem nD τ sig × ℕ)) (d' : Dev nD) (hd : d' = c')
    (Q : PUnit → sProp 𝕄) :
    iprop(records wb κ ∗ owing c ((barCell c', 1) :: l) ∗ dutyTok ER (barCell c') 0 d ∗ barPay c' d ∗ (owing c l -∗ Q ⟨⟩))
      ⊢ wp frame (wpE (defs₀ (F := F)) 𝒱₀ (c : Thread nD τ) none) Set.univ (semSignalWord d' bar 1#32) Q := by
  subst hd
  simp only [semSignalWord, Prog.lift, Prog.bind_op, Prog.bind_ret, Prog.pure_eq_ret, Prog.bind_assoc]
  iintro ⟨#HR, ⟨%W, HO⟩, Ht, Hp, Hk⟩
  iapply (Rounds.wp_signal 𝒱₀ ER (rd wb) (c : Thread nD τ) none (dst := (d' : Thread nD τ)) (sem := bar) (r := 0) (d := d) (κ := κ (barCell d'))
      (by rw [duties_bar]; exact Finset.mem_univ _) ((amount_bar wb d' d).trans (by decide)) () (owe l) rfl) $$ [HO Ht Hp]
  · isplitr; · iapply (inv_bar wb κ d'); iexact HR
    isplitl [HO]; · iexact HO
    isplitl [Ht]; · iexact Ht
    isplitl [Hp]; · iapply (show barPay (F := F) d' d ⊢ (rd wb).payload (barCell d') 0 d from BI.Entails.refl _); iexact Hp
    iapply (reached_bar wb κ d'); iexact HR
  iintro HO
  rw [wp_ret]; imodintro
  iapply Hk
  iexists W; iexact HO

/-- The wait at the device's own barrier cell. -/
theorem barrier_run (κ : GSem nD τ sig → ℕ) (c : Dev nD) (l : List (GSem nD τ sig × ℕ))
    (hl : ∀ a ∈ l, a.1.1.2 = .tc ∧ lv (barCell c) () < lv a.1 ()) (Q : PUnit → sProp 𝕄) :
    iprop(records wb κ ∗ cred (tallyAt (barCell c) () 3) ∗ owing c l ∗ atPos ER (barCell c) 0 ∅ 0
        ∗ ((owing c l ∗ atPos ER (barCell c) 1 ∅ 0 ∗ barPay c 0 ∗ barPay c 1 ∗ barPay c 2) -∗ Q ⟨⟩))
      ⊢ wp frame (wpE (defs₀ (F := F)) 𝒱₀ (c : Thread nD τ) none) Set.univ (semWaitWord bar 3#32) Q := by
  simp only [semWaitWord, Prog.lift, Prog.bind_op, Prog.bind_ret, Prog.pure_eq_ret, Prog.bind_assoc]
  iintro ⟨#HR, Hc, ⟨%W, HO⟩, Hat, Hk⟩
  iapply (Rounds.wp_wait_rest_token 𝒱₀ ER (rd wb) (c : Thread nD τ) none (κ := κ (barCell c))
      (wpE_semWait_eq 𝒱₀ (c : Thread nD τ) none Set.univ) (Set.mem_univ _) () (O := owe l) (W := W) (R := 0) (m := 0) (T := ∅)
      (by rw [expect_bar]; decide)) $$ [Hc HO Hat]
  · isplitr; · iapply (inv_bar wb κ c); iexact HR
    isplitl [Hc]; · iexact Hc
    isplitl [HO]; · iexact HO
    isplitr
    · iapply (mayWait c (.reg bar) l hl); iapply (records_lev wb κ); iexact HR
    iexact Hat
  iintro ⟨HO, Hat, -, Hpay⟩
  ihave Hp := (Entails.of_eq (rest_bar wb c)) $$ Hpay
  rw [wp_ret]; imodintro
  iapply Hk
  isplitl [HO]; · iexists _; iexact HO
  isplitl [Hat]; · iexact Hat
  iexact Hp

end Cert.KernelIdeal.Body

end
-- ==== Proof.Steps.lean ====
module

public import proofs.«01_k».proof.Proof.Proto

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! # What the copies leave, the loads of blocks, the work on a slot's block -/

abbrev xM : Memref sig .tc .vmem S512x512 .bf16 := Memref.whole cc0_stg0_0
abbrev kM : Memref sig .tc .vmem S8x8x256x64 .bf16 := Memref.whole cc0_stg2_0
abbrev vM : Memref sig .tc .vmem S8x8x256x64 .bf16 := Memref.whole cc0_stg3_0
abbrev yM : Memref sig .tc .vmem S512x512 .f32 := Memref.whole cc0_stg4_0
abbrev hM : Memref sig .tc .vmem S512x256 .bf16 := Memref.whole cc0_scratch1

/-- A slot held through the slot's own view is its elements of the gather buffer. -/
theorem slot_pts (c : Dev nD) (a : ℕ) (inb : ∀ x, (![a, 0, 0] : Fin 3 → ℕ) x + S1x512x512.size x ≤ S8x512x512.size x) (q : PosShare TreeShare)
    (f : S8x512x512.Idx → Elt F .i8) :
    ((slot gM ![a, 0, 0] inb).view.loc (c : Thread nD τ) ↦[(slot gM ![a, 0, 0] inb).view.set]{q} f : sProp 𝕄) = gp c (rows a (a + 1)) q f := by
  rw [slot_set a inb]
theorem pair_pts (c : Dev nD) (a : ℕ) (inb : ∀ x, (![a, 0, 0] : Fin 3 → ℕ) x + S2x512x512.size x ≤ S8x512x512.size x) (q : PosShare TreeShare)
    (f : S8x512x512.Idx → Elt F .i8) :
    ((pair gM ![a, 0, 0] inb).view.loc (c : Thread nD τ) ↦[(pair gM ![a, 0, 0] inb).view.set]{q} f : sProp 𝕄) = gp c (rows a (a + 2)) q f := by
  rw [pair_set a inb]
theorem own_pts (c : Dev nD) (q : PosShare TreeShare) (f : S512x512.Idx → Elt F .i8) :
    (oM.view.loc (c : Thread nD τ) ↦[oM.view.set]{q} f : sProp 𝕄) = ob c q f := by
  unfold ob; rw [own_set]

variable (wb : Dev nD → Vec F S512x512 .i8)

/-- A copy of the block of `org c j` into slot `j` of device `c` leaves there what the gathered buffer has. -/
theorem landed (c : Dev nD) (j : Fin 8) (inb : ∀ x, (![j.val, 0, 0] : Fin 3 → ℕ) x + S1x512x512.size x ≤ S8x512x512.size x)
    (fd : S8x512x512.Idx → Elt F .i8) (X : Vec F S512x512 .i8) (hX : X = wb (org c j)) :
    ((slot gM ![j.val, 0, 0] inb).view.loc (c : Thread nD τ) ↦[(slot gM ![j.val, 0, 0] inb).view.set]{fullShare}
        ((slot gM ![j.val, 0, 0] inb).view.write (Elt F) fd X Finset.univ) : sProp 𝕄)
      ⊢ gp c (rows j.val (j.val + 1)) fullShare (gath wb c) := by
  rw [pointsTo_congr (eqOn_of_read (slot gM ![j.val, 0, 0] inb).view _ (gath wb c) (by
    rw [View.read_write_univ, hX]; exact (slot_read wb c j inb).symm))]
  exact Entails.of_eq (slot_pts c j.val inb fullShare (gath wb c))

/-- Slots 2 and 3 of device `c`, copied, leave in slots 6 and 7 of its partner what the gathered buffer has. -/
theorem landed_pair (c : Dev nD) (fd : S8x512x512.Idx → Elt F .i8) :
    ((pair gM ![6, 0, 0] inb_S8x512x512_S2x512x512_6_0_0).view.loc (part c : Thread nD τ)
        ↦[(pair gM ![6, 0, 0] inb_S8x512x512_S2x512x512_6_0_0).view.set]{fullShare}
        ((pair gM ![6, 0, 0] inb_S8x512x512_S2x512x512_6_0_0).view.write (Elt F) fd
          ((pair gM ![2, 0, 0] inb_S8x512x512_S2x512x512_2_0_0).view.read (Elt F) (gath wb c)) Finset.univ) : sProp 𝕄)
      ⊢ gp (part c) (rows 6 8) fullShare (gath wb (part c)) := by
  rw [pointsTo_congr (eqOn_of_read (pair gM ![6, 0, 0] inb_S8x512x512_S2x512x512_6_0_0).view _ (gath wb (part c)) (by
    rw [View.read_write_univ]; exact (pair_read wb c).symm))]
  exact Entails.of_eq (pair_pts (part c) 6 inb_S8x512x512_S2x512x512_6_0_0 fullShare (gath wb (part c)))

/-- A load of slot `j`. -/
theorem load_slot (c : Dev nD) (j : Fin 8) (inb : ∀ x, (![j.val, 0, 0] : Fin 3 → ℕ) x + S1x512x512.size x ≤ S8x512x512.size x) (q : PosShare TreeShare)
    {hl : gM.view.LoadsAt (Rect.unit (s := S8x512x512) ![j.val, 0, 0] S1x512x512.size inb).toLoadRect}
    (Q : Vec F S1x512x512 .i8 → sProp 𝕄) :
    iprop(gp c (rows j.val (j.val + 1)) q (gath wb c)
        ∗ (∀ w : Vec F S1x512x512 .i8, iprop(⌜shapeCast S512x512 w shapeCasts_S1x512x512_S512x512 = wb (org c j)⌝
            ∗ gp c (rows j.val (j.val + 1)) q (gath wb c)) -∗ Q w))
      ⊢ wp frame (wpE (defs₀ (F := F)) 𝒱₀ (c : Thread nD τ) none) Set.univ
          (Prog.lift (.load gM (Rect.unit (s := S8x512x512) ![j.val, 0, 0] S1x512x512.size inb).toLoadRect hl)) Q := by
  unfold Prog.lift
  iintro ⟨Hg, Hk⟩
  iapply (wp_load (defs := defs₀ (F := F)) 𝒱₀ (c : Thread nD τ) none Set.univ (m := gM) (S := rows j.val (j.val + 1)) (q := q) (f := gath wb c) (by
    rw [← rect_rows j.val 1 inb]
    intro i hi
    obtain ⟨y, hy, rfl⟩ := Finset.mem_map.mp hi
    exact hy)) $$ Hg
  iintro Hg
  rw [wp_ret]; imodintro
  iapply Hk
  isplitr
  · ipureintro
    rw [← slot_read wb c j inb]
    rfl
  iexact Hg

/-- A load of the device's own block. -/
theorem load_own (c : Dev nD) (q : PosShare TreeShare)
    {hl : oM.view.LoadsAt (Rect.unit (s := S512x512) ![0, 0] S512x512.size inb_S512x512_S512x512_0_0).toLoadRect}
    (Q : Vec F S512x512 .i8 → sProp 𝕄) :
    iprop(ob c q (wb c)
        ∗ (∀ w : Vec F S512x512 .i8, iprop(⌜shapeCast S512x512 w shapeCasts_S512x512_S512x512 = wb (org c 0)⌝ ∗ ob c q (wb c)) -∗ Q w))
      ⊢ wp frame (wpE (defs₀ (F := F)) 𝒱₀ (c : Thread nD τ) none) Set.univ
          (Prog.lift (.load oM (Rect.unit (s := S512x512) ![0, 0] S512x512.size inb_S512x512_S512x512_0_0).toLoadRect hl)) Q := by
  unfold Prog.lift
  iintro ⟨Hg, Hk⟩
  iapply (wp_load (defs := defs₀ (F := F)) 𝒱₀ (c : Thread nD τ) none Set.univ (m := oM) (S := Finset.univ) (q := q) (f := wb c)
    (Finset.subset_univ _)) $$ Hg
  iintro Hg
  rw [wp_ret]; imodintro
  iapply Hk
  isplitr
  · ipureintro
    refine (shapeCast_self _ _).trans ?_
    exact ld_full S512x512 _ _ (wb c)
  iexact Hg

/-- The load of the result buffer before it is cleared. -/
theorem load_y (c : Dev nD) (out : Vec F S512x512 .f32)
    {hl : yM.view.LoadsAt (Rect.unit (s := S512x512) ![0, 0] S512x512.size inb_S512x512_S512x512_0_0).toLoadRect}
    (Q : Vec F S512x512 .f32 → sProp 𝕄) :
    iprop(owns (c : Thread nD τ) yM fullShare out ∗ (∀ w, owns (c : Thread nD τ) yM fullShare out -∗ Q w))
      ⊢ wp frame (wpE (defs₀ (F := F)) 𝒱₀ (c : Thread nD τ) none) Set.univ
          (Prog.lift (.load yM (Rect.unit (s := S512x512) ![0, 0] S512x512.size inb_S512x512_S512x512_0_0).toLoadRect hl)) Q := by
  unfold Prog.lift owns
  iintro ⟨⟨%f, %hf, Hg⟩, Hk⟩
  iapply (wp_load (defs := defs₀ (F := F)) 𝒱₀ (c : Thread nD τ) none Set.univ (m := yM) (S := yM.view.set) (q := fullShare) (f := f)
    (by rw [View.set_whole]; exact Finset.subset_univ _)) $$ Hg
  iintro Hg
  rw [wp_ret]; imodintro
  iapply Hk
  iexists f; isplitr; · ipureintro; exact hf
  iexact Hg

/-- The result buffer cleared. -/
theorem clear_y (c : Dev nD) (out : Vec F S512x512 .f32)
    (Q : PUnit → sProp 𝕄) :
    iprop(owns (c : Thread nD τ) yM fullShare out ∗ (owns (c : Thread nD τ) yM fullShare (k0_pay6 (F := F)) -∗ Q ⟨⟩))
      ⊢ wp frame (wpE (defs₀ (F := F)) 𝒱₀ (c : Thread nD τ) none) Set.univ
          (Prog.lift (.store yM (Rect.unit (s := S512x512) ![0, 0] S512x512.size inb_S512x512_S512x512_0_0) (k0_pay6 (F := F)) Finset.univ
            (View.stores_vmem_bits_univ h_S512x512 rfl) (.inl rfl))) Q := by
  unfold owns
  iintro ⟨⟨%f, %hf, Hg⟩, Hk⟩
  sl_exec
  sl_step
  iapply Hk
  iexists _; isplitr; swap; · iexact Hg
  ipureintro
  exact View.read_writes_full _ _ _ _ _

/-! ## The work on one block -/

variable (x : Vec F S512x512 .bf16) (kk vv : Vec F S8x8x256x64 .bf16)

theorem org_inb (c : Dev nD) (j : Fin 8) : ∀ a, (![(org c j).val, 0, 0, 0] : Fin 4 → ℕ) a + S1x8x256x64.size a ≤ S8x8x256x64.size a := by
  have h := (org c j).isLt
  intro a
  match a with
  | 0 => exact h
  | 1 => exact Nat.le_refl _
  | 2 => exact Nat.le_refl _
  | 3 => exact Nat.le_refl _

/-- The result after the work on slot `j`'s block. -/
def stepAt (c : Dev nD) (j : Fin 8) (out : Vec F S512x512 .f32) : Vec F S512x512 .f32 :=
  step x (View.ld kk (Rect.unit (s := S8x8x256x64) ![(org c j).val, 0, 0, 0] S1x8x256x64.size (org_inb c j)))
    (View.ld vv (Rect.unit (s := S8x8x256x64) ![(org c j).val, 0, 0, 0] S1x8x256x64.size (org_inb c j))) (wb (org c j)) out

/-- The result after the first `n` blocks. -/
def acc (c : Dev nD) : ℕ → Vec F S512x512 .f32
  | 0 => k0_pay6 (F := F)
  | n + 1 => stepAt wb x kk vv c (Fin.ofNat 8 n) (acc c n)

/-- What the work on a block needs beside the block: the operands, the result so far, the heads' buffer. -/
def chk (c : Dev nD) (out : Vec F S512x512 .f32) : sProp 𝕄 :=
  iprop(owns (c : Thread nD τ) xM fullShare x ∗ owns (c : Thread nD τ) kM fullShare kk ∗ owns (c : Thread nD τ) vM fullShare vv
    ∗ owns (c : Thread nD τ) yM fullShare out ∗ (∃ d, owns (c : Thread nD τ) hM fullShare d))

theorem chunk_at (c : Dev nD) (j : Fin 8) (o : Fin 4 → ℕ) (inb : ∀ a, o a + S1x8x256x64.size a ≤ S8x8x256x64.size a)
    (ho : o = ![(org c j).val, 0, 0, 0]) (w : IVec S512x512 8) (hw : w = wb (org c j)) (out : Vec F S512x512 .f32) (Q : PUnit → sProp 𝕄) :
    iprop(chk x kk vv c out ∗ (chk x kk vv c (stepAt wb x kk vv c j out) -∗ Q ⟨⟩))
      ⊢ wp frame (wpE (defs₀ (F := F)) 𝒱₀ (c : Thread nD τ) none) Set.univ
          (chunk xM kM vM yM hM (Memref.isWhole_whole _) mask o inb w) Q := by
  subst ho hw
  unfold chk
  iintro ⟨⟨H0, H2, H3, H4, H6⟩, Hk⟩
  iapply (chunk_run c xM kM vM yM hM (Memref.isWhole_whole _) _ inb (wb (org c j)) x kk vv out Q)
  isplitl [H0]; · iexact H0
  isplitl [H2]; · iexact H2
  isplitl [H3]; · iexact H3
  isplitl [H4]; · iexact H4
  isplitl [H6]; · iexact H6
  iexact Hk

end Cert.KernelIdeal.Body

end
-- ==== Proof.Moves.lean ====
module

public import proofs.«01_k».proof.Proof.Steps

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! # The copies and the waits of the body -/

/-- The levels of what is still owed lie above a wait's cell, for the waits the body makes. -/
theorem above_bar (c : Dev nD) : ∀ a ∈ (debts c).drop 3, a.1.1.2 = .tc ∧ lv (barCell c) () < lv a.1 () := by
  intro a ha
  simp only [debts, List.drop_succ_cons, List.drop_zero, List.mem_cons, List.not_mem_nil, or_false] at ha
  rcases ha with rfl | rfl | rfl | rfl | rfl | rfl <;> exact ⟨rfl, Nat.le_of_ble_eq_true rfl⟩
theorem above_9 (c : Dev nD) : ∀ a ∈ (debts c).drop 6, a.1.1.2 = .tc ∧ lv (cell c 9) () < lv a.1 () := by
  intro a ha
  simp only [debts, List.drop_succ_cons, List.drop_zero, List.mem_cons, List.not_mem_nil, or_false] at ha
  rcases ha with rfl | rfl | rfl <;> exact ⟨rfl, Nat.le_of_ble_eq_true rfl⟩
theorem above_10 (c : Dev nD) : ∀ a ∈ (debts c).drop 8, a.1.1.2 = .tc ∧ lv (cell c 10) () < lv a.1 () := by
  intro a ha
  simp only [debts, List.drop_succ_cons, List.drop_zero, List.mem_cons, List.not_mem_nil, or_false] at ha
  rcases ha with rfl; exact ⟨rfl, Nat.le_of_ble_eq_true rfl⟩
theorem above_11 (c : Dev nD) : ∀ a ∈ (debts c).drop 8, a.1.1.2 = .tc ∧ lv (cell c 11) () < lv a.1 () := by
  intro a ha
  simp only [debts, List.drop_succ_cons, List.drop_zero, List.mem_cons, List.not_mem_nil, or_false] at ha
  rcases ha with rfl; exact ⟨rfl, Nat.le_of_ble_eq_true rfl⟩
theorem above_nil (c : Dev nD) (k : Fin 16) : ∀ a ∈ ([] : List (GSem nD τ sig × ℕ)), a.1.1.2 = .tc ∧ lv (cell c k) () < lv a.1 () :=
  fun _ h => absurd h List.not_mem_nil

variable (wb : Dev nD → Vec F S512x512 .i8) (x : Vec F S512x512 .bf16) (kk vv : Vec F S8x8x256x64 .bf16)

theorem pay_own (c : Dev nD) (k : Fin 16) (q : PosShare TreeShare) (h : dmaPay wb c (5 + k.val) = ob c q (wb c)) :
    (oM.view.loc (c : Thread nD τ) ↦[oM.view.set]{q} wb c : sProp 𝕄) ⊢ dmaPay wb c (5 + k.val) := by
  rw [h]; exact Entails.of_eq (own_pts c q (wb c))

theorem pay_slot (c : Dev nD) (k : Fin 16) (j : Fin 8) (inb : ∀ x, (![j.val, 0, 0] : Fin 3 → ℕ) x + S1x512x512.size x ≤ S8x512x512.size x)
    (fd : S8x512x512.Idx → Elt F .i8) (X : Vec F S512x512 .i8) (hX : X = wb (org c j))
    (h : dmaPay wb c (5 + k.val) = gp c (rows j.val (j.val + 1)) fullShare (gath wb c)) :
    ((slot gM ![j.val, 0, 0] inb).view.loc (c : Thread nD τ) ↦[(slot gM ![j.val, 0, 0] inb).view.set]{fullShare}
        ((slot gM ![j.val, 0, 0] inb).view.write (Elt F) fd X Finset.univ) : sProp 𝕄) ⊢ dmaPay wb c (5 + k.val) := by
  rw [h]; exact landed wb c j inb fd X hX

/-- The own block to the right neighbour's slot 1. -/
theorem send_r (κ : GSem nD τ sig → ℕ) (c : Dev nD) (f : S8x512x512.Idx → Elt F .i8) (Q : PUnit → sProp 𝕄) :
    iprop(records wb κ ∗ ob c fullShare.left.left (wb c) ∗ gp (right c) (rows 1 2) fullShare f
        ∗ owing c ((debts c).drop 3) ∗ dutyTok ER (cell c 0) 0 0 ∗ reached ER (cell c 0) 0
        ∗ dutyTok ER (cell (right c) 9) 0 0 ∗ reached ER (cell (right c) 9) 0
        ∗ ((cred (tallyAt (cell c 0) () (amt 0)) ∗ owing c ((debts c).drop 4)) -∗ Q ⟨⟩))
      ⊢ wp frame (wpE (defs₀ (F := F)) 𝒱₀ (c : Thread nD τ) none) Set.univ
          (Prog.lift (.enqueueDma oM (.remote (Dev.tc (⟨k0_dev4 c, k0_dev4_lt c⟩ : Dev nD)) (slot gM ![1, 0, 0] inb_S8x512x512_S1x512x512_1_0_0)
            (.dma (entry cc0_scratch2 ![0] inb_S8_S1_0))) (.dma (entry cc0_scratch3 ![1] inb_S8_S1_1))
            (Memref.isWhole_whole _).wordExact (((Memref.isWhole_whole _).wordExact_slice rfl _ wordsi8_S8x512x512_S1x512x512_1_0_0).reshape _ _) ⟨⟨rfl, Or.inl rfl⟩, trivial⟩)) Q := by
  rw [← own_pts, ← slot_pts (right c) 1 inb_S8x512x512_S1x512x512_1_0_0]
  exact send_run wb κ c (right c) 0 9 rfl rfl ((debts c).drop 4) (src := oM) (dst := (slot gM ![1, 0, 0] inb_S8x512x512_S1x512x512_1_0_0)) _ (dev4_eq c) _ _ rfl rfl
    fullShare.left.left (wb c) f rfl rfl (pay_own wb c 0 _ rfl)
    (pay_slot wb (right c) 9 1 inb_S8x512x512_S1x512x512_1_0_0 f _ (show wb c = wb (left (right c)) by rw [left_right]) rfl) Q

/-- The own block to the left neighbour's slot 2. -/
theorem send_l (κ : GSem nD τ sig → ℕ) (c : Dev nD) (f : S8x512x512.Idx → Elt F .i8) (Q : PUnit → sProp 𝕄) :
    iprop(records wb κ ∗ ob c fullShare.left.right (wb c) ∗ gp (left c) (rows 2 3) fullShare f
        ∗ owing c ((debts c).drop 4) ∗ dutyTok ER (cell c 1) 0 0 ∗ reached ER (cell c 1) 0
        ∗ dutyTok ER (cell (left c) 10) 0 0 ∗ reached ER (cell (left c) 10) 0
        ∗ ((cred (tallyAt (cell c 1) () (amt 1)) ∗ owing c ((debts c).drop 5)) -∗ Q ⟨⟩))
      ⊢ wp frame (wpE (defs₀ (F := F)) 𝒱₀ (c : Thread nD τ) none) Set.univ
          (Prog.lift (.enqueueDma oM (.remote (Dev.tc (⟨k0_dev5 c, k0_dev5_lt c⟩ : Dev nD)) (slot gM ![2, 0, 0] inb_S8x512x512_S1x512x512_2_0_0)
            (.dma (entry cc0_scratch2 ![1] inb_S8_S1_1))) (.dma (entry cc0_scratch3 ![2] inb_S8_S1_2))
            (Memref.isWhole_whole _).wordExact (((Memref.isWhole_whole _).wordExact_slice rfl _ wordsi8_S8x512x512_S1x512x512_2_0_0).reshape _ _) ⟨⟨rfl, Or.inl rfl⟩, trivial⟩)) Q := by
  rw [← own_pts, ← slot_pts (left c) 2 inb_S8x512x512_S1x512x512_2_0_0]
  exact send_run wb κ c (left c) 1 10 rfl rfl ((debts c).drop 5) (src := oM) (dst := (slot gM ![2, 0, 0] inb_S8x512x512_S1x512x512_2_0_0)) _ (dev5_eq c) _ _ rfl rfl
    fullShare.left.right (wb c) f rfl rfl (pay_own wb c 1 _ rfl)
    (pay_slot wb (left c) 10 2 inb_S8x512x512_S1x512x512_2_0_0 f _ (show wb c = wb (right (left c)) by rw [right_left]) rfl) Q

/-- The own block to the partner's slot 4. -/
theorem send_p (κ : GSem nD τ sig → ℕ) (c : Dev nD) (f : S8x512x512.Idx → Elt F .i8) (Q : PUnit → sProp 𝕄) :
    iprop(records wb κ ∗ ob c fullShare.right.left (wb c) ∗ gp (part c) (rows 4 5) fullShare f
        ∗ owing c ((debts c).drop 5) ∗ dutyTok ER (cell c 5) 0 0 ∗ reached ER (cell c 5) 0
        ∗ dutyTok ER (cell (part c) 12) 0 0 ∗ reached ER (cell (part c) 12) 0
        ∗ ((cred (tallyAt (cell c 5) () (amt 5)) ∗ owing c ((debts c).drop 6)) -∗ Q ⟨⟩))
      ⊢ wp frame (wpE (defs₀ (F := F)) 𝒱₀ (c : Thread nD τ) none) Set.univ
          (Prog.lift (.enqueueDma oM (.remote (Dev.tc (⟨k0_dev6 c, k0_dev6_lt c⟩ : Dev nD)) (slot gM ![4, 0, 0] inb_S8x512x512_S1x512x512_4_0_0)
            (.dma (entry cc0_scratch2 ![5] inb_S8_S1_5))) (.dma (entry cc0_scratch3 ![4] inb_S8_S1_4))
            (Memref.isWhole_whole _).wordExact (((Memref.isWhole_whole _).wordExact_slice rfl _ wordsi8_S8x512x512_S1x512x512_4_0_0).reshape _ _) ⟨⟨rfl, Or.inl rfl⟩, trivial⟩)) Q := by
  rw [← own_pts, ← slot_pts (part c) 4 inb_S8x512x512_S1x512x512_4_0_0]
  exact send_run wb κ c (part c) 5 12 rfl rfl ((debts c).drop 6) (src := oM) (dst := (slot gM ![4, 0, 0] inb_S8x512x512_S1x512x512_4_0_0)) _ (dev6_eq c) _ _ rfl rfl
    fullShare.right.left (wb c) f rfl rfl (pay_own wb c 5 _ rfl)
    (pay_slot wb (part c) 12 4 inb_S8x512x512_S1x512x512_4_0_0 f _ (show wb c = wb (part (part c)) by rw [part_part]) rfl) Q

theorem pay_back (c : Dev nD) (k : Fin 16) (j : ℕ) (inb : ∀ x, (![j, 0, 0] : Fin 3 → ℕ) x + S1x512x512.size x ≤ S8x512x512.size x)
    (q : PosShare TreeShare) (h : dmaPay wb c (5 + k.val) = gp c (rows j (j + 1)) q (gath wb c)) :
    ((slot gM ![j, 0, 0] inb).view.loc (c : Thread nD τ) ↦[(slot gM ![j, 0, 0] inb).view.set]{q} gath wb c : sProp 𝕄) ⊢ dmaPay wb c (5 + k.val) := by
  rw [h]; exact Entails.of_eq (slot_pts c j inb q (gath wb c))

/-- What slot 1 of device `c` reads is what slot `j` of the device it goes to shall. -/
theorem fwd_eq (c c' : Dev nD) (j : Fin 8) (h : org c 1 = org c' j) :
    (slot gM ![1, 0, 0] inb_S8x512x512_S1x512x512_1_0_0).view.read (Elt F) (gath wb c) = wb (org c' j) :=
  (slot_read wb c 1 inb_S8x512x512_S1x512x512_1_0_0).trans (congrArg wb h)

/-- The left neighbour's block on to the partner's slot 5. -/
theorem send_za (κ : GSem nD τ sig → ℕ) (c : Dev nD) (f : S8x512x512.Idx → Elt F .i8) (Q : PUnit → sProp 𝕄) :
    iprop(records wb κ ∗ gp c (rows 1 2) fullShare.left (gath wb c) ∗ gp (part c) (rows 5 6) fullShare f
        ∗ owing c ((debts c).drop 6) ∗ dutyTok ER (cell c 3) 0 0 ∗ reached ER (cell c 3) 0
        ∗ dutyTok ER (cell (part c) 13) 0 0 ∗ reached ER (cell (part c) 13) 0
        ∗ ((cred (tallyAt (cell c 3) () (amt 3)) ∗ owing c ((debts c).drop 7)) -∗ Q ⟨⟩))
      ⊢ wp frame (wpE (defs₀ (F := F)) 𝒱₀ (c : Thread nD τ) none) Set.univ
          (Prog.lift (.enqueueDma (slot gM ![1, 0, 0] inb_S8x512x512_S1x512x512_1_0_0) (.remote (Dev.tc (⟨k0_dev7 c, k0_dev7_lt c⟩ : Dev nD)) (slot gM ![5, 0, 0] inb_S8x512x512_S1x512x512_5_0_0)
            (.dma (entry cc0_scratch2 ![3] inb_S8_S1_3))) (.dma (entry cc0_scratch3 ![5] inb_S8_S1_5))
            (((Memref.isWhole_whole _).wordExact_slice rfl _ wordsi8_S8x512x512_S1x512x512_1_0_0).reshape _ _) (((Memref.isWhole_whole _).wordExact_slice rfl _ wordsi8_S8x512x512_S1x512x512_5_0_0).reshape _ _) ⟨⟨rfl, Or.inl rfl⟩, trivial⟩)) Q := by
  rw [← slot_pts c 1 inb_S8x512x512_S1x512x512_1_0_0 fullShare.left (gath wb c), ← slot_pts (part c) 5 inb_S8x512x512_S1x512x512_5_0_0 fullShare f]
  exact send_run wb κ c (part c) 3 13 rfl rfl ((debts c).drop 7) (src := (slot gM ![1, 0, 0] inb_S8x512x512_S1x512x512_1_0_0)) (dst := (slot gM ![5, 0, 0] inb_S8x512x512_S1x512x512_5_0_0)) _ (dev7_eq c) _ _ rfl rfl
    fullShare.left (gath wb c) f rfl rfl (pay_back wb c 3 1 inb_S8x512x512_S1x512x512_1_0_0 _ rfl)
    (pay_slot wb (part c) 13 5 inb_S8x512x512_S1x512x512_5_0_0 f _ (fwd_eq wb c (part c) 5 (show left c = left (part (part c)) by rw [part_part])) rfl) Q

/-- The left neighbour's block on to the right neighbour's slot 3. -/
theorem send_f (κ : GSem nD τ sig → ℕ) (c : Dev nD) (f : S8x512x512.Idx → Elt F .i8) (Q : PUnit → sProp 𝕄) :
    iprop(records wb κ ∗ gp c (rows 1 2) fullShare.right.left (gath wb c) ∗ gp (right c) (rows 3 4) fullShare f
        ∗ owing c ((debts c).drop 7) ∗ dutyTok ER (cell c 2) 0 0 ∗ reached ER (cell c 2) 0
        ∗ dutyTok ER (cell (right c) 11) 0 0 ∗ reached ER (cell (right c) 11) 0
        ∗ ((cred (tallyAt (cell c 2) () (amt 2)) ∗ owing c ((debts c).drop 8)) -∗ Q ⟨⟩))
      ⊢ wp frame (wpE (defs₀ (F := F)) 𝒱₀ (c : Thread nD τ) none) Set.univ
          (Prog.lift (.enqueueDma (slot gM ![1, 0, 0] inb_S8x512x512_S1x512x512_1_0_0) (.remote (Dev.tc (⟨k0_dev8 c, k0_dev8_lt c⟩ : Dev nD)) (slot gM ![3, 0, 0] inb_S8x512x512_S1x512x512_3_0_0)
            (.dma (entry cc0_scratch2 ![2] inb_S8_S1_2))) (.dma (entry cc0_scratch3 ![3] inb_S8_S1_3))
            (((Memref.isWhole_whole _).wordExact_slice rfl _ wordsi8_S8x512x512_S1x512x512_1_0_0).reshape _ _) (((Memref.isWhole_whole _).wordExact_slice rfl _ wordsi8_S8x512x512_S1x512x512_3_0_0).reshape _ _) ⟨⟨rfl, Or.inl rfl⟩, trivial⟩)) Q := by
  rw [← slot_pts c 1 inb_S8x512x512_S1x512x512_1_0_0 fullShare.right.left (gath wb c), ← slot_pts (right c) 3 inb_S8x512x512_S1x512x512_3_0_0 fullShare f]
  exact send_run wb κ c (right c) 2 11 rfl rfl ((debts c).drop 8) (src := (slot gM ![1, 0, 0] inb_S8x512x512_S1x512x512_1_0_0)) (dst := (slot gM ![3, 0, 0] inb_S8x512x512_S1x512x512_3_0_0)) _ (dev8_eq c) _ _ rfl rfl
    fullShare.right.left (gath wb c) f rfl rfl (pay_back wb c 2 1 inb_S8x512x512_S1x512x512_1_0_0 _ rfl)
    (pay_slot wb (right c) 11 3 inb_S8x512x512_S1x512x512_3_0_0 f _ (fwd_eq wb c (right c) 3 (show left c = right (right (right c)) by revert c; decide)) rfl) Q

theorem pay_back2 (c : Dev nD) :
    ((pair gM ![2, 0, 0] inb_S8x512x512_S2x512x512_2_0_0).view.loc (c : Thread nD τ)
      ↦[(pair gM ![2, 0, 0] inb_S8x512x512_S2x512x512_2_0_0).view.set]{fullShare.left} gath wb c : sProp 𝕄) ⊢ dmaPay wb c (5 + (4 : Fin 16).val) :=
  Entails.of_eq (pair_pts c 2 inb_S8x512x512_S2x512x512_2_0_0 fullShare.left (gath wb c))

/-- Slots 2 and 3 on to the partner's slots 6 and 7. -/
theorem send_zb (κ : GSem nD τ sig → ℕ) (c : Dev nD) (f : S8x512x512.Idx → Elt F .i8) (Q : PUnit → sProp 𝕄) :
    iprop(records wb κ ∗ gp c (rows 2 4) fullShare.left (gath wb c) ∗ gp (part c) (rows 6 8) fullShare f
        ∗ owing c ((debts c).drop 8) ∗ dutyTok ER (cell c 4) 0 0 ∗ reached ER (cell c 4) 0
        ∗ dutyTok ER (cell (part c) 14) 0 0 ∗ reached ER (cell (part c) 14) 0
        ∗ ((cred (tallyAt (cell c 4) () (amt 4)) ∗ owing c ((debts c).drop 9)) -∗ Q ⟨⟩))
      ⊢ wp frame (wpE (defs₀ (F := F)) 𝒱₀ (c : Thread nD τ) none) Set.univ
          (Prog.lift (.enqueueDma (pair gM ![2, 0, 0] inb_S8x512x512_S2x512x512_2_0_0) (.remote (Dev.tc (⟨k0_dev9 c, k0_dev9_lt c⟩ : Dev nD)) (pair gM ![6, 0, 0] inb_S8x512x512_S2x512x512_6_0_0)
            (.dma (entry cc0_scratch2 ![4] inb_S8_S1_4))) (.dma (entry cc0_scratch3 ![6] inb_S8_S1_6))
            ((Memref.isWhole_whole _).wordExact_slice rfl _ wordsi8_S8x512x512_S2x512x512_2_0_0) ((Memref.isWhole_whole _).wordExact_slice rfl _ wordsi8_S8x512x512_S2x512x512_6_0_0) ⟨⟨rfl, Or.inl rfl⟩, trivial⟩)) Q := by
  rw [← pair_pts c 2 inb_S8x512x512_S2x512x512_2_0_0 fullShare.left (gath wb c), ← pair_pts (part c) 6 inb_S8x512x512_S2x512x512_6_0_0 fullShare f]
  exact send_run wb κ c (part c) 4 14 rfl rfl ((debts c).drop 9) (src := (pair gM ![2, 0, 0] inb_S8x512x512_S2x512x512_2_0_0)) (dst := (pair gM ![6, 0, 0] inb_S8x512x512_S2x512x512_6_0_0)) _ (dev9_eq c) _ _ rfl rfl
    fullShare.left (gath wb c) f rfl rfl (pay_back2 wb c)
    (landed_pair wb c f) Q

/-! ### The waits, one each: what comes with it -/

theorem wait_9 (κ : GSem nD τ sig → ℕ) (c : Dev nD) (Q : PUnit → sProp 𝕄) :
    iprop(records wb κ ∗ cred (tallyAt (cell c 9) () (amt 9)) ∗ owing c ((debts c).drop 6) ∗ atPos ER (cell c 9) 0 ∅ 0
        ∗ ((owing c ((debts c).drop 6) ∗ atPos ER (cell c 9) 1 ∅ 0 ∗ gp c (rows 1 2) fullShare (gath wb c)) -∗ Q ⟨⟩))
      ⊢ wp frame (wpE (defs₀ (F := F)) 𝒱₀ (c : Thread nD τ) none) Set.univ
          (Prog.lift (.waitDma2 (entry cc0_scratch3 ![1] inb_S8_S1_1) (slot gM ![1, 0, 0] inb_S8x512x512_S1x512x512_1_0_0) (slot gM ![1, 0, 0] inb_S8x512x512_S1x512x512_1_0_0) (((Memref.isWhole_whole _).wordExact_slice rfl _ wordsi8_S8x512x512_S1x512x512_1_0_0).reshape _ _) (((Memref.isWhole_whole _).wordExact_slice rfl _ wordsi8_S8x512x512_S1x512x512_1_0_0).reshape _ _))) Q :=
  wait_run wb κ c 9 rfl ((debts c).drop 6) (above_9 c) (src := (slot gM ![1, 0, 0] inb_S8x512x512_S1x512x512_1_0_0)) (dst := (slot gM ![1, 0, 0] inb_S8x512x512_S1x512x512_1_0_0)) _ rfl rfl Q

theorem wait_10 (κ : GSem nD τ sig → ℕ) (c : Dev nD) (Q : PUnit → sProp 𝕄) :
    iprop(records wb κ ∗ cred (tallyAt (cell c 10) () (amt 10)) ∗ owing c ((debts c).drop 8) ∗ atPos ER (cell c 10) 0 ∅ 0
        ∗ ((owing c ((debts c).drop 8) ∗ atPos ER (cell c 10) 1 ∅ 0 ∗ gp c (rows 2 3) fullShare (gath wb c)) -∗ Q ⟨⟩))
      ⊢ wp frame (wpE (defs₀ (F := F)) 𝒱₀ (c : Thread nD τ) none) Set.univ
          (Prog.lift (.waitDma2 (entry cc0_scratch3 ![2] inb_S8_S1_2) (slot gM ![2, 0, 0] inb_S8x512x512_S1x512x512_2_0_0) (slot gM ![2, 0, 0] inb_S8x512x512_S1x512x512_2_0_0) (((Memref.isWhole_whole _).wordExact_slice rfl _ wordsi8_S8x512x512_S1x512x512_2_0_0).reshape _ _) (((Memref.isWhole_whole _).wordExact_slice rfl _ wordsi8_S8x512x512_S1x512x512_2_0_0).reshape _ _))) Q :=
  wait_run wb κ c 10 rfl ((debts c).drop 8) (above_10 c) (src := (slot gM ![2, 0, 0] inb_S8x512x512_S1x512x512_2_0_0)) (dst := (slot gM ![2, 0, 0] inb_S8x512x512_S1x512x512_2_0_0)) _ rfl rfl Q

theorem wait_11 (κ : GSem nD τ sig → ℕ) (c : Dev nD) (Q : PUnit → sProp 𝕄) :
    iprop(records wb κ ∗ cred (tallyAt (cell c 11) () (amt 11)) ∗ owing c ((debts c).drop 8) ∗ atPos ER (cell c 11) 0 ∅ 0
        ∗ ((owing c ((debts c).drop 8) ∗ atPos ER (cell c 11) 1 ∅ 0 ∗ gp c (rows 3 4) fullShare (gath wb c)) -∗ Q ⟨⟩))
      ⊢ wp frame (wpE (defs₀ (F := F)) 𝒱₀ (c : Thread nD τ) none) Set.univ
          (Prog.lift (.waitDma2 (entry cc0_scratch3 ![3] inb_S8_S1_3) (slot gM ![3, 0, 0] inb_S8x512x512_S1x512x512_3_0_0) (slot gM ![3, 0, 0] inb_S8x512x512_S1x512x512_3_0_0) (((Memref.isWhole_whole _).wordExact_slice rfl _ wordsi8_S8x512x512_S1x512x512_3_0_0).reshape _ _) (((Memref.isWhole_whole _).wordExact_slice rfl _ wordsi8_S8x512x512_S1x512x512_3_0_0).reshape _ _))) Q :=
  wait_run wb κ c 11 rfl ((debts c).drop 8) (above_11 c) (src := (slot gM ![3, 0, 0] inb_S8x512x512_S1x512x512_3_0_0)) (dst := (slot gM ![3, 0, 0] inb_S8x512x512_S1x512x512_3_0_0)) _ rfl rfl Q

theorem wait_12 (κ : GSem nD τ sig → ℕ) (c : Dev nD) (Q : PUnit → sProp 𝕄) :
    iprop(records wb κ ∗ cred (tallyAt (cell c 12) () (amt 12)) ∗ owing c [] ∗ atPos ER (cell c 12) 0 ∅ 0
        ∗ ((owing c [] ∗ atPos ER (cell c 12) 1 ∅ 0 ∗ gp c (rows 4 5) fullShare (gath wb c)) -∗ Q ⟨⟩))
      ⊢ wp frame (wpE (defs₀ (F := F)) 𝒱₀ (c : Thread nD τ) none) Set.univ
          (Prog.lift (.waitDma2 (entry cc0_scratch3 ![4] inb_S8_S1_4) (slot gM ![4, 0, 0] inb_S8x512x512_S1x512x512_4_0_0) (slot gM ![4, 0, 0] inb_S8x512x512_S1x512x512_4_0_0) (((Memref.isWhole_whole _).wordExact_slice rfl _ wordsi8_S8x512x512_S1x512x512_4_0_0).reshape _ _) (((Memref.isWhole_whole _).wordExact_slice rfl _ wordsi8_S8x512x512_S1x512x512_4_0_0).reshape _ _))) Q :=
  wait_run wb κ c 12 rfl [] (above_nil c 12) (src := (slot gM ![4, 0, 0] inb_S8x512x512_S1x512x512_4_0_0)) (dst := (slot gM ![4, 0, 0] inb_S8x512x512_S1x512x512_4_0_0)) _ rfl rfl Q

theorem wait_13 (κ : GSem nD τ sig → ℕ) (c : Dev nD) (Q : PUnit → sProp 𝕄) :
    iprop(records wb κ ∗ cred (tallyAt (cell c 13) () (amt 13)) ∗ owing c [] ∗ atPos ER (cell c 13) 0 ∅ 0
        ∗ ((owing c [] ∗ atPos ER (cell c 13) 1 ∅ 0 ∗ gp c (rows 5 6) fullShare (gath wb c)) -∗ Q ⟨⟩))
      ⊢ wp frame (wpE (defs₀ (F := F)) 𝒱₀ (c : Thread nD τ) none) Set.univ
          (Prog.lift (.waitDma2 (entry cc0_scratch3 ![5] inb_S8_S1_5) (slot gM ![5, 0, 0] inb_S8x512x512_S1x512x512_5_0_0) (slot gM ![5, 0, 0] inb_S8x512x512_S1x512x512_5_0_0) (((Memref.isWhole_whole _).wordExact_slice rfl _ wordsi8_S8x512x512_S1x512x512_5_0_0).reshape _ _) (((Memref.isWhole_whole _).wordExact_slice rfl _ wordsi8_S8x512x512_S1x512x512_5_0_0).reshape _ _))) Q :=
  wait_run wb κ c 13 rfl [] (above_nil c 13) (src := (slot gM ![5, 0, 0] inb_S8x512x512_S1x512x512_5_0_0)) (dst := (slot gM ![5, 0, 0] inb_S8x512x512_S1x512x512_5_0_0)) _ rfl rfl Q

theorem wait_14 (κ : GSem nD τ sig → ℕ) (c : Dev nD) (Q : PUnit → sProp 𝕄) :
    iprop(records wb κ ∗ cred (tallyAt (cell c 14) () (amt 14)) ∗ owing c [] ∗ atPos ER (cell c 14) 0 ∅ 0
        ∗ ((owing c [] ∗ atPos ER (cell c 14) 1 ∅ 0 ∗ gp c (rows 6 8) fullShare (gath wb c)) -∗ Q ⟨⟩))
      ⊢ wp frame (wpE (defs₀ (F := F)) 𝒱₀ (c : Thread nD τ) none) Set.univ
          (Prog.lift (.waitDma2 (entry cc0_scratch3 ![6] inb_S8_S1_6) (pair gM ![6, 0, 0] inb_S8x512x512_S2x512x512_6_0_0) (pair gM ![6, 0, 0] inb_S8x512x512_S2x512x512_6_0_0) ((Memref.isWhole_whole _).wordExact_slice rfl _ wordsi8_S8x512x512_S2x512x512_6_0_0) ((Memref.isWhole_whole _).wordExact_slice rfl _ wordsi8_S8x512x512_S2x512x512_6_0_0))) Q :=
  wait_run wb κ c 14 rfl [] (above_nil c 14) (src := (pair gM ![6, 0, 0] inb_S8x512x512_S2x512x512_6_0_0)) (dst := (pair gM ![6, 0, 0] inb_S8x512x512_S2x512x512_6_0_0)) _ rfl rfl Q

theorem wait_0 (κ : GSem nD τ sig → ℕ) (c : Dev nD) (Q : PUnit → sProp 𝕄) :
    iprop(records wb κ ∗ cred (tallyAt (cell c 0) () (amt 0)) ∗ owing c [] ∗ atPos ER (cell c 0) 0 ∅ 0
        ∗ ((owing c [] ∗ atPos ER (cell c 0) 1 ∅ 0 ∗ ob c fullShare.left.left (wb c)) -∗ Q ⟨⟩))
      ⊢ wp frame (wpE (defs₀ (F := F)) 𝒱₀ (c : Thread nD τ) none) Set.univ
          (Prog.lift (.waitDma2 (entry cc0_scratch2 ![0] inb_S8_S1_0) (slot gM ![1, 0, 0] inb_S8x512x512_S1x512x512_1_0_0) oM (((Memref.isWhole_whole _).wordExact_slice rfl _ wordsi8_S8x512x512_S1x512x512_1_0_0).reshape _ _) (Memref.isWhole_whole _).wordExact)) Q :=
  wait_run wb κ c 0 rfl [] (above_nil c 0) (src := (slot gM ![1, 0, 0] inb_S8x512x512_S1x512x512_1_0_0)) (dst := oM) _ rfl rfl Q

theorem wait_1 (κ : GSem nD τ sig → ℕ) (c : Dev nD) (Q : PUnit → sProp 𝕄) :
    iprop(records wb κ ∗ cred (tallyAt (cell c 1) () (amt 1)) ∗ owing c [] ∗ atPos ER (cell c 1) 0 ∅ 0
        ∗ ((owing c [] ∗ atPos ER (cell c 1) 1 ∅ 0 ∗ ob c fullShare.left.right (wb c)) -∗ Q ⟨⟩))
      ⊢ wp frame (wpE (defs₀ (F := F)) 𝒱₀ (c : Thread nD τ) none) Set.univ
          (Prog.lift (.waitDma2 (entry cc0_scratch2 ![1] inb_S8_S1_1) (slot gM ![2, 0, 0] inb_S8x512x512_S1x512x512_2_0_0) oM (((Memref.isWhole_whole _).wordExact_slice rfl _ wordsi8_S8x512x512_S1x512x512_2_0_0).reshape _ _) (Memref.isWhole_whole _).wordExact)) Q :=
  wait_run wb κ c 1 rfl [] (above_nil c 1) (src := (slot gM ![2, 0, 0] inb_S8x512x512_S1x512x512_2_0_0)) (dst := oM) _ rfl rfl Q

theorem wait_5 (κ : GSem nD τ sig → ℕ) (c : Dev nD) (Q : PUnit → sProp 𝕄) :
    iprop(records wb κ ∗ cred (tallyAt (cell c 5) () (amt 5)) ∗ owing c [] ∗ atPos ER (cell c 5) 0 ∅ 0
        ∗ ((owing c [] ∗ atPos ER (cell c 5) 1 ∅ 0 ∗ ob c fullShare.right.left (wb c)) -∗ Q ⟨⟩))
      ⊢ wp frame (wpE (defs₀ (F := F)) 𝒱₀ (c : Thread nD τ) none) Set.univ
          (Prog.lift (.waitDma2 (entry cc0_scratch2 ![5] inb_S8_S1_5) (slot gM ![4, 0, 0] inb_S8x512x512_S1x512x512_4_0_0) oM (((Memref.isWhole_whole _).wordExact_slice rfl _ wordsi8_S8x512x512_S1x512x512_4_0_0).reshape _ _) (Memref.isWhole_whole _).wordExact)) Q :=
  wait_run wb κ c 5 rfl [] (above_nil c 5) (src := (slot gM ![4, 0, 0] inb_S8x512x512_S1x512x512_4_0_0)) (dst := oM) _ rfl rfl Q

theorem wait_2 (κ : GSem nD τ sig → ℕ) (c : Dev nD) (Q : PUnit → sProp 𝕄) :
    iprop(records wb κ ∗ cred (tallyAt (cell c 2) () (amt 2)) ∗ owing c [] ∗ atPos ER (cell c 2) 0 ∅ 0
        ∗ ((owing c [] ∗ atPos ER (cell c 2) 1 ∅ 0 ∗ gp c (rows 1 2) fullShare.right.left (gath wb c)) -∗ Q ⟨⟩))
      ⊢ wp frame (wpE (defs₀ (F := F)) 𝒱₀ (c : Thread nD τ) none) Set.univ
          (Prog.lift (.waitDma2 (entry cc0_scratch2 ![2] inb_S8_S1_2) (slot gM ![3, 0, 0] inb_S8x512x512_S1x512x512_3_0_0) (slot gM ![1, 0, 0] inb_S8x512x512_S1x512x512_1_0_0) (((Memref.isWhole_whole _).wordExact_slice rfl _ wordsi8_S8x512x512_S1x512x512_3_0_0).reshape _ _) (((Memref.isWhole_whole _).wordExact_slice rfl _ wordsi8_S8x512x512_S1x512x512_1_0_0).reshape _ _))) Q :=
  wait_run wb κ c 2 rfl [] (above_nil c 2) (src := (slot gM ![3, 0, 0] inb_S8x512x512_S1x512x512_3_0_0)) (dst := (slot gM ![1, 0, 0] inb_S8x512x512_S1x512x512_1_0_0)) _ rfl rfl Q

theorem wait_3 (κ : GSem nD τ sig → ℕ) (c : Dev nD) (Q : PUnit → sProp 𝕄) :
    iprop(records wb κ ∗ cred (tallyAt (cell c 3) () (amt 3)) ∗ owing c [] ∗ atPos ER (cell c 3) 0 ∅ 0
        ∗ ((owing c [] ∗ atPos ER (cell c 3) 1 ∅ 0 ∗ gp c (rows 1 2) fullShare.left (gath wb c)) -∗ Q ⟨⟩))
      ⊢ wp frame (wpE (defs₀ (F := F)) 𝒱₀ (c : Thread nD τ) none) Set.univ
          (Prog.lift (.waitDma2 (entry cc0_scratch2 ![3] inb_S8_S1_3) (slot gM ![5, 0, 0] inb_S8x512x512_S1x512x512_5_0_0) (slot gM ![1, 0, 0] inb_S8x512x512_S1x512x512_1_0_0) (((Memref.isWhole_whole _).wordExact_slice rfl _ wordsi8_S8x512x512_S1x512x512_5_0_0).reshape _ _) (((Memref.isWhole_whole _).wordExact_slice rfl _ wordsi8_S8x512x512_S1x512x512_1_0_0).reshape _ _))) Q :=
  wait_run wb κ c 3 rfl [] (above_nil c 3) (src := (slot gM ![5, 0, 0] inb_S8x512x512_S1x512x512_5_0_0)) (dst := (slot gM ![1, 0, 0] inb_S8x512x512_S1x512x512_1_0_0)) _ rfl rfl Q

theorem wait_4 (κ : GSem nD τ sig → ℕ) (c : Dev nD) (Q : PUnit → sProp 𝕄) :
    iprop(records wb κ ∗ cred (tallyAt (cell c 4) () (amt 4)) ∗ owing c [] ∗ atPos ER (cell c 4) 0 ∅ 0
        ∗ ((owing c [] ∗ atPos ER (cell c 4) 1 ∅ 0 ∗ gp c (rows 2 4) fullShare.left (gath wb c)) -∗ Q ⟨⟩))
      ⊢ wp frame (wpE (defs₀ (F := F)) 𝒱₀ (c : Thread nD τ) none) Set.univ
          (Prog.lift (.waitDma2 (entry cc0_scratch2 ![4] inb_S8_S1_4) (pair gM ![6, 0, 0] inb_S8x512x512_S2x512x512_6_0_0) (pair gM ![2, 0, 0] inb_S8x512x512_S2x512x512_2_0_0) ((Memref.isWhole_whole _).wordExact_slice rfl _ wordsi8_S8x512x512_S2x512x512_6_0_0) ((Memref.isWhole_whole _).wordExact_slice rfl _ wordsi8_S8x512x512_S2x512x512_2_0_0))) Q :=
  wait_run wb κ c 4 rfl [] (above_nil c 4) (src := (pair gM ![6, 0, 0] inb_S8x512x512_S2x512x512_6_0_0)) (dst := (pair gM ![2, 0, 0] inb_S8x512x512_S2x512x512_2_0_0)) _ rfl rfl Q

end Cert.KernelIdeal.Body

end
-- ==== Proof.Run.lean ====
module

public import proofs.«01_k».proof.Proof.Moves

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! # The body, stage by stage -/

variable (wb : Dev nD → Vec F S512x512 .i8) (x : Vec F S512x512 .bf16) (kk vv : Vec F S8x8x256x64 .bf16)

/-- Elements of a device's gather buffer at contents not chosen. -/
abbrev gany (c : Dev nD) (S : Finset S8x512x512.Idx) : sProp 𝕄 := iprop(∃ f, gp c S fullShare f)

/-- What the first stage needs. -/
def pre0 (κ : GSem nD τ sig → ℕ) (c : Dev nD) (out : Vec F S512x512 .f32) : sProp 𝕄 :=
  iprop(records wb κ ∗ (bigSep Finset.univ fun k : Fin 16 => reached ER (cell c k) 0) ∗ owing c (debts c)
    ∗ dutyTok ER (barCell (left c)) 0 0 ∗ dutyTok ER (barCell (right c)) 0 1 ∗ dutyTok ER (barCell (part c)) 0 2
    ∗ cred (tallyAt (barCell c) () 3) ∗ atPos ER (barCell c) 0 ∅ 0
    ∗ gany c (rows 1 2) ∗ gany c (rows 2 3) ∗ gany c (rows 3 4) ∗ gany c (rows 4 5) ∗ gany c (rows 5 6) ∗ gany c (rows 6 8)
    ∗ ob c fullShare (wb c) ∗ owns (c : Thread nD τ) yM fullShare out
    ∗ dutyTok ER (cell c 0) 0 0 ∗ dutyTok ER (cell c 1) 0 0 ∗ dutyTok ER (cell c 5) 0 0
    ∗ dutyTok ER (cell (right c) 9) 0 0 ∗ dutyTok ER (cell (left c) 10) 0 0 ∗ dutyTok ER (cell (part c) 12) 0 0)

/-- What it leaves: three copies on their way, the places of the later ones in hand. -/
def post0 (c : Dev nD) : sProp 𝕄 :=
  iprop(owing c ((debts c).drop 6) ∗ atPos ER (barCell c) 1 ∅ 0
    ∗ cred (tallyAt (cell c 0) () (amt 0)) ∗ cred (tallyAt (cell c 1) () (amt 1)) ∗ cred (tallyAt (cell c 5) () (amt 5))
    ∗ ob c fullShare.right.right (wb c) ∗ owns (c : Thread nD τ) yM fullShare (k0_pay6 (F := F))
    ∗ gany (right c) (rows 3 4) ∗ reached ER (cell (right c) 11) 0
    ∗ gany (part c) (rows 5 6) ∗ gany (part c) (rows 6 8) ∗ reached ER (cell (part c) 13) 0 ∗ reached ER (cell (part c) 14) 0)

theorem reached_cell (c : Dev nD) (k : Fin 16) : (bigSep Finset.univ fun k : Fin 16 => (reached ER (cell c k) 0 : sProp 𝕄)) ⊢ reached ER (cell c k) 0 :=
  bigSep_elim (Finset.mem_univ k)

set_option maxHeartbeats 1600000 in
theorem run0 (κ : GSem nD τ sig → ℕ) (c : Dev nD) (out : Vec F S512x512 .f32) (Q : PUnit → sProp 𝕄) :
    iprop(pre0 wb κ c out ∗ (post0 wb c -∗ Q ⟨⟩))
      ⊢ wp frame (wpE (defs₀ (F := F)) 𝒱₀ (c : Thread nD τ) none) Set.univ
          (stage0 xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3 c) Q := by
  unfold stage0 pre0
  simp only [wp_bind]
  iintro ⟨⟨#HR, #Hr, HO, Hb0, Hb1, Hb2, HcB, HaB, G1, G2, G3, G4, G5, G6, Hown, Hy, T0, T1, T5, T9, T10, T12⟩, Hk⟩
  iapply (signal_run wb κ c (left c) 0 ((debts c).drop 1) _ (dev1_eq c) _)
  isplitr; · iexact HR
  isplitl [HO]; · iexact HO
  isplitl [Hb0]; · iexact Hb0
  isplitl [G1 G3]
  · unfold barPay; rw [right_left]
    isplitl [G1]; · iexact G1
    isplitl [G3]; · iexact G3
    isplitr; · iapply (reached_cell c 9); iexact Hr
    iapply (reached_cell c 11); iexact Hr
  iintro HO
  iapply (signal_run wb κ c (right c) 1 ((debts c).drop 2) _ (dev2_eq c) _)
  isplitr; · iexact HR
  isplitl [HO]; · iexact HO
  isplitl [Hb1]; · iexact Hb1
  isplitl [G2]
  · unfold barPay; rw [left_right]
    isplitl [G2]; · iexact G2
    iapply (reached_cell c 10); iexact Hr
  iintro HO
  iapply (signal_run wb κ c (part c) 2 ((debts c).drop 3) _ (dev3_eq c) _)
  isplitr; · iexact HR
  isplitl [HO]; · iexact HO
  isplitl [Hb2]; · iexact Hb2
  isplitl [G4 G5 G6]
  · unfold barPay; rw [part_part]
    isplitl [G4]; · iexact G4
    isplitl [G5]; · iexact G5
    isplitl [G6]; · iexact G6
    isplitr; · iapply (reached_cell c 12); iexact Hr
    isplitr; · iapply (reached_cell c 13); iexact Hr
    iapply (reached_cell c 14); iexact Hr
  iintro HO
  iapply (barrier_run wb κ c ((debts c).drop 3) (above_bar c) _)
  isplitr; · iexact HR
  isplitl [HcB]; · iexact HcB
  isplitl [HO]; · iexact HO
  isplitl [HaB]; · iexact HaB
  unfold barPay
  iintro ⟨HO, HaB, ⟨⟨%f1, G1⟩, G3, #R9, #R11⟩, ⟨⟨%f2, G2⟩, #R10⟩, ⟨⟨%f4, G4⟩, G5, G6, #R12, #R13, #R14⟩⟩
  iapply (load_y c out _)
  isplitl [Hy]; · iexact Hy
  iintro %w Hy
  iapply (clear_y c out _)
  isplitl [Hy]; · iexact Hy
  iintro Hy
  ihave Hs := (pointsTo_share (PosShare.mem_left_op_right fullShare)).1 $$ Hown
  icases Hs with ⟨Hl, Hrt⟩
  ihave Hs := (pointsTo_share (PosShare.mem_left_op_right fullShare.left)).1 $$ Hl
  icases Hs with ⟨Hll, Hlr⟩
  ihave Hs := (pointsTo_share (PosShare.mem_left_op_right fullShare.right)).1 $$ Hrt
  icases Hs with ⟨Hrl, Hrr⟩
  iapply (send_r wb κ c f1 _)
  isplitr; · iexact HR
  isplitl [Hll]; · iexact Hll
  isplitl [G1]; · iexact G1
  isplitl [HO]; · iexact HO
  isplitl [T0]; · iexact T0
  isplitr; · iapply (reached_cell c 0); iexact Hr
  isplitl [T9]; · iexact T9
  isplitr; · iexact R9
  iintro ⟨C0, HO⟩
  iapply (send_l wb κ c f2 _)
  isplitr; · iexact HR
  isplitl [Hlr]; · iexact Hlr
  isplitl [G2]; · iexact G2
  isplitl [HO]; · iexact HO
  isplitl [T1]; · iexact T1
  isplitr; · iapply (reached_cell c 1); iexact Hr
  isplitl [T10]; · iexact T10
  isplitr; · iexact R10
  iintro ⟨C1, HO⟩
  iapply (send_p wb κ c f4 _)
  isplitr; · iexact HR
  isplitl [Hrl]; · iexact Hrl
  isplitl [G4]; · iexact G4
  isplitl [HO]; · iexact HO
  isplitl [T5]; · iexact T5
  isplitr; · iapply (reached_cell c 5); iexact Hr
  isplitl [T12]; · iexact T12
  isplitr; · iexact R12
  iintro ⟨C5, HO⟩
  iapply Hk
  unfold post0
  isplitl [HO]; · iexact HO
  isplitl [HaB]; · iexact HaB
  isplitl [C0]; · iexact C0
  isplitl [C1]; · iexact C1
  isplitl [C5]; · iexact C5
  isplitl [Hrr]; · iexact Hrr
  isplitl [Hy]; · iexact Hy
  isplitl [G3]; · iexact G3
  isplitr; · iexact R11
  isplitl [G5]; · iexact G5
  isplitl [G6]; · iexact G6
  isplitr; · iexact R13
  iexact R14

/-- What the second stage needs. -/
def pre1 (κ : GSem nD τ sig → ℕ) (c : Dev nD) : sProp 𝕄 :=
  iprop(records wb κ ∗ (bigSep Finset.univ fun k : Fin 16 => reached ER (cell c k) 0) ∗ owing c ((debts c).drop 6) ∗ ob c fullShare.right.right (wb c) ∗ chk x kk vv c (acc wb x kk vv c 0) ∗ cred (tallyAt (cell c 9) () (amt 9)) ∗ atPos ER (cell c 9) 0 ∅ 0
    ∗ dutyTok ER (cell c 3) 0 0 ∗ dutyTok ER (cell (part c) 13) 0 0 ∗ dutyTok ER (cell c 2) 0 0 ∗ dutyTok ER (cell (right c) 11) 0 0
    ∗ gany (part c) (rows 5 6) ∗ gany (right c) (rows 3 4) ∗ reached ER (cell (part c) 13) 0 ∗ reached ER (cell (right c) 11) 0)
/-- What it leaves. -/
def post1 (c : Dev nD) : sProp 𝕄 :=
  iprop(owing c ((debts c).drop 8) ∗ ob c fullShare.right.right (wb c) ∗ chk x kk vv c (acc wb x kk vv c 2) ∗ atPos ER (cell c 9) 1 ∅ 0
    ∗ cred (tallyAt (cell c 3) () (amt 3)) ∗ cred (tallyAt (cell c 2) () (amt 2)) ∗ gp c (rows 1 2) fullShare.right.right (gath wb c))

set_option maxHeartbeats 1600000 in
theorem run1 (κ : GSem nD τ sig → ℕ) (c : Dev nD) (Q : PUnit → sProp 𝕄) :
    iprop(pre1 wb x kk vv κ c ∗ (post1 wb x kk vv c -∗ Q ⟨⟩))
      ⊢ wp frame (wpE (defs₀ (F := F)) 𝒱₀ (c : Thread nD τ) none) Set.univ
          (stage1 xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3 c) Q := by
  unfold stage1 pre1
  simp only [wp_bind]
  iintro ⟨⟨#HR, #Hr, HO, Hrr, Hc, C9, A9, T3, T13, T2, T11, P5, P3, #R13, #R11⟩, Hk⟩
  iapply (load_own wb c fullShare.right.right _)
  isplitl [Hrr]; · iexact Hrr
  iintro %w0 ⟨%hw0, Hrr⟩
  iapply (chunk_at wb x kk vv c 0 (k0_off1 c) (k0_off1_inb c) (off_eq c).1 _ hw0 (acc wb x kk vv c 0) _)
  isplitl [Hc]; · iexact Hc
  iintro Hc
  iapply (wait_9 wb κ c _)
  isplitr; · iexact HR
  isplitl [C9]; · iexact C9
  isplitl [HO]; · iexact HO
  isplitl [A9]; · iexact A9
  iintro ⟨HO, A9, G1⟩
  ihave Hs := (pointsTo_share (PosShare.mem_left_op_right fullShare)).1 $$ G1
  icases Hs with ⟨Gl, Grt⟩
  ihave Hs := (pointsTo_share (PosShare.mem_left_op_right fullShare.right)).1 $$ Grt
  icases Hs with ⟨Grl, Grr⟩
  icases P5 with ⟨%f5, P5⟩
  icases P3 with ⟨%f3, P3⟩
  iapply (send_za wb κ c f5 _)
  isplitr; · iexact HR
  isplitl [Gl]; · iexact Gl
  isplitl [P5]; · iexact P5
  isplitl [HO]; · iexact HO
  isplitl [T3]; · iexact T3
  isplitr; · iapply (reached_cell c 3); iexact Hr
  isplitl [T13]; · iexact T13
  isplitr; · iexact R13
  iintro ⟨C3, HO⟩
  iapply (send_f wb κ c f3 _)
  isplitr; · iexact HR
  isplitl [Grl]; · iexact Grl
  isplitl [P3]; · iexact P3
  isplitl [HO]; · iexact HO
  isplitl [T2]; · iexact T2
  isplitr; · iapply (reached_cell c 2); iexact Hr
  isplitl [T11]; · iexact T11
  isplitr; · iexact R11
  iintro ⟨C2, HO⟩
  iapply (load_slot wb c 1 inb_S8x512x512_S1x512x512_1_0_0 fullShare.right.right _)
  isplitl [Grr]; · iexact Grr
  iintro %w1 ⟨%hw1, Grr⟩
  iapply (chunk_at wb x kk vv c 1 (k0_off2 c 3#32) (k0_off2_inb c 2) (off_eq c).2.1 _ hw1 (acc wb x kk vv c 1) _)
  isplitl [Hc]; · iexact Hc
  iintro Hc
  iapply Hk
  unfold post1
  isplitl [HO]; · iexact HO
  isplitl [Hrr]; · iexact Hrr
  isplitl [Hc]; · iexact Hc
  isplitl [A9]; · iexact A9
  isplitl [C3]; · iexact C3
  isplitl [C2]; · iexact C2
  iexact Grr

/-- What the third stage needs. -/
def pre2 (κ : GSem nD τ sig → ℕ) (c : Dev nD) : sProp 𝕄 :=
  iprop(records wb κ ∗ (bigSep Finset.univ fun k : Fin 16 => reached ER (cell c k) 0) ∗ owing c ((debts c).drop 8) ∗ chk x kk vv c (acc wb x kk vv c 2) ∗ cred (tallyAt (cell c 10) () (amt 10)) ∗ atPos ER (cell c 10) 0 ∅ 0 ∗ cred (tallyAt (cell c 11) () (amt 11)) ∗ atPos ER (cell c 11) 0 ∅ 0
    ∗ dutyTok ER (cell c 4) 0 0 ∗ dutyTok ER (cell (part c) 14) 0 0 ∗ gany (part c) (rows 6 8) ∗ reached ER (cell (part c) 14) 0)
/-- What it leaves. -/
def post2 (c : Dev nD) : sProp 𝕄 :=
  iprop(owing c [] ∗ chk x kk vv c (acc wb x kk vv c 4) ∗ atPos ER (cell c 10) 1 ∅ 0 ∗ atPos ER (cell c 11) 1 ∅ 0
    ∗ cred (tallyAt (cell c 4) () (amt 4)) ∗ gp c (rows 2 3) fullShare.right (gath wb c) ∗ gp c (rows 3 4) fullShare.right (gath wb c))

set_option maxHeartbeats 1600000 in
theorem run2 (κ : GSem nD τ sig → ℕ) (c : Dev nD) (Q : PUnit → sProp 𝕄) :
    iprop(pre2 wb x kk vv κ c ∗ (post2 wb x kk vv c -∗ Q ⟨⟩))
      ⊢ wp frame (wpE (defs₀ (F := F)) 𝒱₀ (c : Thread nD τ) none) Set.univ
          (stage2 xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3 c) Q := by
  unfold stage2 pre2
  simp only [wp_bind]
  iintro ⟨⟨#HR, #Hr, HO, Hc, C10, A10, C11, A11, T4, T14, P6, #R14⟩, Hk⟩
  iapply (wait_10 wb κ c _)
  isplitr; · iexact HR
  isplitl [C10]; · iexact C10
  isplitl [HO]; · iexact HO
  isplitl [A10]; · iexact A10
  iintro ⟨HO, A10, G2⟩
  iapply (load_slot wb c 2 inb_S8x512x512_S1x512x512_2_0_0 fullShare _)
  isplitl [G2]; · iexact G2
  iintro %w2 ⟨%hw2, G2⟩
  iapply (chunk_at wb x kk vv c 2 (k0_off2 c 1#32) (k0_off2_inb c 0) (off_eq c).2.2.1 _ hw2 (acc wb x kk vv c 2) _)
  isplitl [Hc]; · iexact Hc
  iintro Hc
  iapply (wait_11 wb κ c _)
  isplitr; · iexact HR
  isplitl [C11]; · iexact C11
  isplitl [HO]; · iexact HO
  isplitl [A11]; · iexact A11
  iintro ⟨HO, A11, G3⟩
  ihave Hs := (pointsTo_share (PosShare.mem_left_op_right fullShare)).1 $$ G2
  icases Hs with ⟨G2l, G2r⟩
  ihave Hs := (pointsTo_share (PosShare.mem_left_op_right fullShare)).1 $$ G3
  icases Hs with ⟨G3l, G3r⟩
  ihave Gl : gp c (rows 2 4) fullShare.left (gath wb c) $$ [G2l G3l]
  · rw [rows_union (show 2 ≤ 3 by decide) (show 3 ≤ 4 by decide)]
    iapply (pointsTo_union (rows_disjoint 2 3 4)).2
    isplitl [G2l]; · iexact G2l
    iexact G3l
  icases P6 with ⟨%f6, P6⟩
  iapply (send_zb wb κ c f6 _)
  isplitr; · iexact HR
  isplitl [Gl]; · iexact Gl
  isplitl [P6]; · iexact P6
  isplitl [HO]; · iexact HO
  isplitl [T4]; · iexact T4
  isplitr; · iapply (reached_cell c 4); iexact Hr
  isplitl [T14]; · iexact T14
  isplitr; · iexact R14
  iintro ⟨C4, HO⟩
  iapply (load_slot wb c 3 inb_S8x512x512_S1x512x512_3_0_0 fullShare.right _)
  isplitl [G3r]; · iexact G3r
  iintro %w3 ⟨%hw3, G3r⟩
  iapply (chunk_at wb x kk vv c 3 (k0_off2 c 2#32) (k0_off2_inb c 1) (off_eq c).2.2.2.1 _ hw3 (acc wb x kk vv c 3) _)
  isplitl [Hc]; · iexact Hc
  iintro Hc
  iapply Hk
  unfold post2
  isplitl [HO]; · iexact HO
  isplitl [Hc]; · iexact Hc
  isplitl [A10]; · iexact A10
  isplitl [A11]; · iexact A11
  isplitl [C4]; · iexact C4
  isplitl [G2r]; · iexact G2r
  iexact G3r

/-- What the fourth stage needs. -/
def pre3 (κ : GSem nD τ sig → ℕ) (c : Dev nD) : sProp 𝕄 :=
  iprop(records wb κ ∗ owing c [] ∗ chk x kk vv c (acc wb x kk vv c 4) ∗ cred (tallyAt (cell c 12) () (amt 12)) ∗ atPos ER (cell c 12) 0 ∅ 0 ∗ cred (tallyAt (cell c 13) () (amt 13)) ∗ atPos ER (cell c 13) 0 ∅ 0)
/-- What it leaves. -/
def post3 (c : Dev nD) : sProp 𝕄 :=
  iprop(owing c [] ∗ chk x kk vv c (acc wb x kk vv c 6) ∗ atPos ER (cell c 12) 1 ∅ 0 ∗ atPos ER (cell c 13) 1 ∅ 0 ∗ gp c (rows 4 5) fullShare (gath wb c) ∗ gp c (rows 5 6) fullShare (gath wb c))

set_option maxHeartbeats 1600000 in
theorem run3 (κ : GSem nD τ sig → ℕ) (c : Dev nD) (Q : PUnit → sProp 𝕄) :
    iprop(pre3 wb x kk vv κ c ∗ (post3 wb x kk vv c -∗ Q ⟨⟩))
      ⊢ wp frame (wpE (defs₀ (F := F)) 𝒱₀ (c : Thread nD τ) none) Set.univ
          (stage3 xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3 c) Q := by
  unfold stage3 pre3
  simp only [wp_bind]
  iintro ⟨⟨#HR, HO, Hc, C12, A12, C13, A13⟩, Hk⟩
  iapply (wait_12 wb κ c _)
  isplitr; · iexact HR
  isplitl [C12]; · iexact C12
  isplitl [HO]; · iexact HO
  isplitl [A12]; · iexact A12
  iintro ⟨HO, A12, G4⟩
  iapply (load_slot wb c 4 inb_S8x512x512_S1x512x512_4_0_0 fullShare _)
  isplitl [G4]; · iexact G4
  iintro %w4 ⟨%hw4, G4⟩
  iapply (chunk_at wb x kk vv c 4 (k0_off3 c) (k0_off3_inb c) (off_eq c).2.2.2.2.1 _ hw4 (acc wb x kk vv c 4) _)
  isplitl [Hc]; · iexact Hc
  iintro Hc
  iapply (wait_13 wb κ c _)
  isplitr; · iexact HR
  isplitl [C13]; · iexact C13
  isplitl [HO]; · iexact HO
  isplitl [A13]; · iexact A13
  iintro ⟨HO, A13, G5⟩
  iapply (load_slot wb c 5 inb_S8x512x512_S1x512x512_5_0_0 fullShare _)
  isplitl [G5]; · iexact G5
  iintro %w5 ⟨%hw5, G5⟩
  iapply (chunk_at wb x kk vv c 5 (k0_off4 c 3#32) (k0_off4_inb c 2) (off_eq c).2.2.2.2.2.1 _ hw5 (acc wb x kk vv c 5) _)
  isplitl [Hc]; · iexact Hc
  iintro Hc
  iapply Hk
  unfold post3
  isplitl [HO]; · iexact HO
  isplitl [Hc]; · iexact Hc
  isplitl [A12]; · iexact A12
  isplitl [A13]; · iexact A13
  isplitl [G4]; · iexact G4
  iexact G5

/-- What the fifth stage needs. -/
def pre4 (κ : GSem nD τ sig → ℕ) (c : Dev nD) : sProp 𝕄 :=
  iprop(records wb κ ∗ owing c [] ∗ chk x kk vv c (acc wb x kk vv c 6) ∗ cred (tallyAt (cell c 14) () (amt 14)) ∗ atPos ER (cell c 14) 0 ∅ 0)
/-- What it leaves. -/
def post4 (c : Dev nD) : sProp 𝕄 :=
  iprop(owing c [] ∗ chk x kk vv c (acc wb x kk vv c 8) ∗ atPos ER (cell c 14) 1 ∅ 0 ∗ gp c (rows 6 7) fullShare (gath wb c) ∗ gp c (rows 7 8) fullShare (gath wb c))

set_option maxHeartbeats 1600000 in
theorem run4 (κ : GSem nD τ sig → ℕ) (c : Dev nD) (Q : PUnit → sProp 𝕄) :
    iprop(pre4 wb x kk vv κ c ∗ (post4 wb x kk vv c -∗ Q ⟨⟩))
      ⊢ wp frame (wpE (defs₀ (F := F)) 𝒱₀ (c : Thread nD τ) none) Set.univ
          (stage4 xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3 c) Q := by
  unfold stage4 pre4
  simp only [wp_bind]
  iintro ⟨⟨#HR, HO, Hc, C14, A14⟩, Hk⟩
  iapply (wait_14 wb κ c _)
  isplitr; · iexact HR
  isplitl [C14]; · iexact C14
  isplitl [HO]; · iexact HO
  isplitl [A14]; · iexact A14
  iintro ⟨HO, A14, G68⟩
  ihave Hs : iprop(gp c (rows 6 7) fullShare (gath wb c) ∗ gp c (rows 7 8) fullShare (gath wb c)) $$ [G68]
  · rw [rows_union (show 6 ≤ 7 by decide) (show 7 ≤ 8 by decide)]
    iapply (pointsTo_union (rows_disjoint 6 7 8)).1; iexact G68
  icases Hs with ⟨G6, G7⟩
  iapply (load_slot wb c 6 inb_S8x512x512_S1x512x512_6_0_0 fullShare _)
  isplitl [G6]; · iexact G6
  iintro %w6 ⟨%hw6, G6⟩
  iapply (chunk_at wb x kk vv c 6 (k0_off4 c 1#32) (k0_off4_inb c 0) (off_eq c).2.2.2.2.2.2.1 _ hw6 (acc wb x kk vv c 6) _)
  isplitl [Hc]; · iexact Hc
  iintro Hc
  iapply (load_slot wb c 7 inb_S8x512x512_S1x512x512_7_0_0 fullShare _)
  isplitl [G7]; · iexact G7
  iintro %w7 ⟨%hw7, G7⟩
  iapply (chunk_at wb x kk vv c 7 (k0_off4 c 2#32) (k0_off4_inb c 1) (off_eq c).2.2.2.2.2.2.2 _ hw7 (acc wb x kk vv c 7) _)
  isplitl [Hc]; · iexact Hc
  iintro Hc
  iapply Hk
  unfold post4
  isplitl [HO]; · iexact HO
  isplitl [Hc]; · iexact Hc
  isplitl [A14]; · iexact A14
  isplitl [G6]; · iexact G6
  iexact G7

/-- What the last stage needs. -/
def pre5 (κ : GSem nD τ sig → ℕ) (c : Dev nD) : sProp 𝕄 :=
  iprop(records wb κ ∗ owing c []
    ∗ cred (tallyAt (cell c 0) () (amt 0)) ∗ cred (tallyAt (cell c 1) () (amt 1)) ∗ cred (tallyAt (cell c 5) () (amt 5)) ∗ cred (tallyAt (cell c 2) () (amt 2)) ∗ cred (tallyAt (cell c 3) () (amt 3)) ∗ cred (tallyAt (cell c 4) () (amt 4))
    ∗ atPos ER (cell c 0) 0 ∅ 0 ∗ atPos ER (cell c 1) 0 ∅ 0 ∗ atPos ER (cell c 5) 0 ∅ 0 ∗ atPos ER (cell c 2) 0 ∅ 0 ∗ atPos ER (cell c 3) 0 ∅ 0 ∗ atPos ER (cell c 4) 0 ∅ 0)
/-- What it leaves: every source back. -/
def post5 (c : Dev nD) : sProp 𝕄 :=
  iprop(owing c []
    ∗ atPos ER (cell c 0) 1 ∅ 0 ∗ atPos ER (cell c 1) 1 ∅ 0 ∗ atPos ER (cell c 5) 1 ∅ 0 ∗ atPos ER (cell c 2) 1 ∅ 0 ∗ atPos ER (cell c 3) 1 ∅ 0 ∗ atPos ER (cell c 4) 1 ∅ 0
    ∗ ob c fullShare.left.left (wb c) ∗ ob c fullShare.left.right (wb c) ∗ ob c fullShare.right.left (wb c)
    ∗ gp c (rows 1 2) fullShare.right.left (gath wb c) ∗ gp c (rows 1 2) fullShare.left (gath wb c) ∗ gp c (rows 2 4) fullShare.left (gath wb c))

set_option maxHeartbeats 1600000 in
theorem run5 (κ : GSem nD τ sig → ℕ) (c : Dev nD) (Q : PUnit → sProp 𝕄) :
    iprop(pre5 wb κ c ∗ (post5 wb c -∗ Q ⟨⟩))
      ⊢ wp frame (wpE (defs₀ (F := F)) 𝒱₀ (c : Thread nD τ) none) Set.univ
          (stage5 xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3) Q := by
  unfold stage5 pre5
  simp only [wp_bind]
  iintro ⟨⟨#HR, HO, C0, C1, C5, C2, C3, C4, A0, A1, A5, A2, A3, A4⟩, Hk⟩
  iapply (wait_0 wb κ c _)
  isplitr; · iexact HR
  isplitl [C0]; · iexact C0
  isplitl [HO]; · iexact HO
  isplitl [A0]; · iexact A0
  iintro ⟨HO, A0, H0⟩
  iapply (wait_1 wb κ c _)
  isplitr; · iexact HR
  isplitl [C1]; · iexact C1
  isplitl [HO]; · iexact HO
  isplitl [A1]; · iexact A1
  iintro ⟨HO, A1, H1⟩
  iapply (wait_5 wb κ c _)
  isplitr; · iexact HR
  isplitl [C5]; · iexact C5
  isplitl [HO]; · iexact HO
  isplitl [A5]; · iexact A5
  iintro ⟨HO, A5, H5⟩
  iapply (wait_2 wb κ c _)
  isplitr; · iexact HR
  isplitl [C2]; · iexact C2
  isplitl [HO]; · iexact HO
  isplitl [A2]; · iexact A2
  iintro ⟨HO, A2, H2⟩
  iapply (wait_3 wb κ c _)
  isplitr; · iexact HR
  isplitl [C3]; · iexact C3
  isplitl [HO]; · iexact HO
  isplitl [A3]; · iexact A3
  iintro ⟨HO, A3, H3⟩
  iapply (wait_4 wb κ c _)
  isplitr; · iexact HR
  isplitl [C4]; · iexact C4
  isplitl [HO]; · iexact HO
  isplitl [A4]; · iexact A4
  iintro ⟨HO, A4, H4⟩
  iapply Hk
  unfold post5
  isplitl [HO]; · iexact HO
  isplitl [A0]; · iexact A0
  isplitl [A1]; · iexact A1
  isplitl [A5]; · iexact A5
  isplitl [A2]; · iexact A2
  isplitl [A3]; · iexact A3
  isplitl [A4]; · iexact A4
  isplitl [H0]; · iexact H0
  isplitl [H1]; · iexact H1
  isplitl [H5]; · iexact H5
  isplitl [H2]; · iexact H2
  isplitl [H3]; · iexact H3
  iexact H4

end Cert.KernelIdeal.Body

end
-- ==== Proof.Whole.lean ====
module

public import Idealize.ShloMosaic.Lib.Rounds.Family
public import proofs.«01_k».proof.Proof.Run

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! # The whole body -/

variable (wb : Dev nD → Vec F S512x512 .i8) (x : Vec F S512x512 .bf16) (kk vv : Vec F S8x8x256x64 .bf16)

/-- Two neighbouring ranges of slots, each at contents not chosen, are one range. -/
theorem gany_join (c : Dev nD) {a b d : ℕ} (h₁ : a ≤ b) (h₂ : b ≤ d) :
    (iprop(gany c (rows a b) ∗ gany c (rows b d)) : sProp 𝕄) ⊢ gany c (rows a d) := by
  unfold gany
  rw [rows_union h₁ h₂]
  iintro ⟨⟨%f, H⟩, ⟨%g, H'⟩⟩
  iexists _
  iapply (pointsTo_join (rows_disjoint a b d))
  isplitl [H]; · iexact H
  iexact H'

theorem gany_cut (c : Dev nD) {a b d : ℕ} (h₁ : a ≤ b) (h₂ : b ≤ d) :
    (gany c (rows a d) : sProp 𝕄) ⊢ iprop(gany c (rows a b) ∗ gany c (rows b d)) := by
  unfold gany
  rw [rows_union h₁ h₂]
  iintro ⟨%f, H⟩
  ihave Hs := (pointsTo_union (rows_disjoint a b d)).1 $$ H
  icases Hs with ⟨H, H'⟩
  isplitl [H]; · iexists f; iexact H
  iexists f; iexact H'

/-- The tokens of the duties device `c` pays: three barrier units, six sends, six receives. -/
def toks (c : Dev nD) : sProp 𝕄 :=
  iprop((dutyTok ER (barCell (left c)) 0 0 ∗ dutyTok ER (barCell (right c)) 0 1 ∗ dutyTok ER (barCell (part c)) 0 2)
    ∗ (dutyTok ER (cell c 0) 0 0 ∗ dutyTok ER (cell c 1) 0 0 ∗ dutyTok ER (cell c 2) 0 0 ∗ dutyTok ER (cell c 3) 0 0
      ∗ dutyTok ER (cell c 4) 0 0 ∗ dutyTok ER (cell c 5) 0 0)
    ∗ (dutyTok ER (cell (right c) 9) 0 0 ∗ dutyTok ER (cell (left c) 10) 0 0 ∗ dutyTok ER (cell (right c) 11) 0 0
      ∗ dutyTok ER (cell (part c) 12) 0 0 ∗ dutyTok ER (cell (part c) 13) 0 0 ∗ dutyTok ER (cell (part c) 14) 0 0))

/-- The credit device `c` waits with on the cells other devices pay. -/
def creds (c : Dev nD) : sProp 𝕄 :=
  iprop(cred (tallyAt (barCell c) () 3) ∗ cred (tallyAt (cell c 9) () (amt 9)) ∗ cred (tallyAt (cell c 10) () (amt 10))
    ∗ cred (tallyAt (cell c 11) () (amt 11)) ∗ cred (tallyAt (cell c 12) () (amt 12)) ∗ cred (tallyAt (cell c 13) () (amt 13))
    ∗ cred (tallyAt (cell c 14) () (amt 14)))

/-- Something for each of the device's sixteen transfer cells, one by one. -/
theorem bigSep16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-- The round a cell is at when the body ends. -/
abbrev endAt (k : Fin 16) : ℕ := if used k then 1 else 0

theorem end_empty (c : Dev nD) (k : Fin 16) : ∀ r, endAt k ≤ r → (rd wb).duties (cell c k) r = ∅ := by
  intro r hr
  rcases Nat.eq_zero_or_pos r with rfl | h
  · rw [duties_cell]
    by_cases hu : used k = true
    · rw [endAt, if_pos hu] at hr; omega
    · rw [if_neg hu]
  · exact duties_later wb _ r h

/-- Every transfer cell closed: its counter is back, at zero. -/
theorem close_cells (κ : GSem nD τ sig → ℕ) (c : Dev nD) :
    iprop(records wb κ ∗ bigSep Finset.univ fun k : Fin 16 => atPos ER (cell c k) (endAt k) ∅ 0)
      ⊢ (|={Set.univ}=> bigSep Finset.univ fun k : Fin 16 => semVal (cell c k) 0 : sProp 𝕄) := by
  refine .trans ?_ (Rounds.cells_close ER (rd wb) Finset.univ (fun k : Fin 16 => cell c k) (fun k => κ (cell c k))
    (fun k _ => Set.mem_univ _) (fun k _ => id) endAt fun k _ => end_empty wb c k)
  exact bigSep_with_persistent (R := records wb κ) fun k _ => by
    iintro ⟨#HR, Ha⟩
    isplitr; · iapply (inv_cell wb κ c k); iexact HR
    iexact Ha

theorem close_bar (κ : GSem nD τ sig → ℕ) (c : Dev nD) :
    iprop(records wb κ ∗ atPos ER (barCell c) 1 ∅ 0) ⊢ (|={Set.univ}=> semVal (barCell c) 0 : sProp 𝕄) := by
  iintro ⟨#HR, Ha⟩
  iapply (Rounds.cell_close ER (rd wb) (g := barCell c) (Set.mem_univ (κ (barCell c))) id (R := 1) (duties_later wb _))
  isplitr; · iapply (inv_bar wb κ c); iexact HR
  iexact Ha

/-- What the body runs on: the protocol's records and this device's part of it, what it owes, the two scratch buffers,
    the five staged windows. -/
def bodyPre (κ : GSem nD τ sig → ℕ) (c : Dev nD) (out : Vec F S512x512 .f32) : sProp 𝕄 :=
  iprop(records wb κ ∗ (bigSep Finset.univ fun k : Fin 16 => reached ER (cell c k) 0)
    ∗ (bigSep Finset.univ fun k : Fin 16 => atPos ER (cell c k) 0 ∅ 0) ∗ atPos ER (barCell c) 0 ∅ 0 ∗ toks c ∗ creds c
    ∗ owing c (debts c) ∗ gany c (rows 0 8) ∗ (∃ d, owns (c : Thread nD τ) hM fullShare d)
    ∗ owns (c : Thread nD τ) xM fullShare x ∗ ob c fullShare (wb c) ∗ owns (c : Thread nD τ) kM fullShare kk
    ∗ owns (c : Thread nD τ) vM fullShare vv ∗ owns (c : Thread nD τ) yM fullShare out)

/-- What it leaves: nothing owed, every counter at zero, the inputs as they were, the result complete. -/
def bodyPost (c : Dev nD) : sProp 𝕄 :=
  iprop(owing c [] ∗ semVal (barCell c) 0 ∗ (bigSep Finset.univ fun k : Fin 16 => semVal (cell c k) 0)
    ∗ gany c (rows 0 8) ∗ (∃ d, owns (c : Thread nD τ) hM fullShare d)
    ∗ owns (c : Thread nD τ) xM fullShare x ∗ ob c fullShare (wb c) ∗ owns (c : Thread nD τ) kM fullShare kk
    ∗ owns (c : Thread nD τ) vM fullShare vv ∗ owns (c : Thread nD τ) yM fullShare (acc wb x kk vv c 8))

/-- The device's copy of its own weights, whole again once its parts are back. -/
theorem own_back (c : Dev nD) (f : S512x512.Idx → Elt F .i8) :
    (iprop(ob c fullShare.left.left f ∗ ob c fullShare.left.right f ∗ ob c fullShare.right.left f ∗ ob c fullShare.right.right f) : sProp 𝕄)
      ⊢ ob c fullShare f := by
  iintro ⟨H1, H2, H3, H4⟩
  iapply (pointsTo_share (PosShare.mem_left_op_right fullShare)).2
  isplitl [H1 H2]
  · iapply (pointsTo_share (PosShare.mem_left_op_right fullShare.left)).2
    isplitl [H1]; · iexact H1
    iexact H2
  iapply (pointsTo_share (PosShare.mem_left_op_right fullShare.right)).2
  isplitl [H3]; · iexact H3
  iexact H4

/-- The gather buffer, whole again once every part of every slot is back. -/
theorem slots_back (c : Dev nD) (f : S8x512x512.Idx → Elt F .i8) :
    (iprop(gany c (rows 0 1)
        ∗ (gp c (rows 1 2) fullShare.left f ∗ gp c (rows 1 2) fullShare.right.left f ∗ gp c (rows 1 2) fullShare.right.right f)
        ∗ (gp c (rows 2 4) fullShare.left f ∗ gp c (rows 2 3) fullShare.right f ∗ gp c (rows 3 4) fullShare.right f)
        ∗ gp c (rows 4 5) fullShare f ∗ gp c (rows 5 6) fullShare f ∗ gp c (rows 6 7) fullShare f ∗ gp c (rows 7 8) fullShare f) : sProp 𝕄)
      ⊢ gany c (rows 0 8) := by
  iintro ⟨H0, ⟨A1, A2, A3⟩, ⟨B1, B2, B3⟩, H4, H5, H6, H7⟩
  iapply (gany_join c (show 0 ≤ 1 by decide) (show 1 ≤ 8 by decide)); isplitl [H0]; · iexact H0
  iapply (gany_join c (show 1 ≤ 2 by decide) (show 2 ≤ 8 by decide)); isplitl [A1 A2 A3]
  · iexists f
    iapply (pointsTo_share (PosShare.mem_left_op_right fullShare)).2
    isplitl [A1]; · iexact A1
    iapply (pointsTo_share (PosShare.mem_left_op_right fullShare.right)).2
    isplitl [A2]; · iexact A2
    iexact A3
  iapply (gany_join c (show 2 ≤ 4 by decide) (show 4 ≤ 8 by decide)); isplitl [B1 B2 B3]
  · iexists f
    iapply (pointsTo_share (PosShare.mem_left_op_right fullShare)).2
    isplitl [B1]; · iexact B1
    rw [rows_union (show 2 ≤ 3 by decide) (show 3 ≤ 4 by decide)]
    iapply (pointsTo_union (rows_disjoint 2 3 4)).2
    isplitl [B2]; · iexact B2
    iexact B3
  iapply (gany_join c (show 4 ≤ 5 by decide) (show 5 ≤ 8 by decide)); isplitl [H4]; · iexists f; iexact H4
  iapply (gany_join c (show 5 ≤ 6 by decide) (show 6 ≤ 8 by decide)); isplitl [H5]; · iexists f; iexact H5
  iapply (gany_join c (show 6 ≤ 7 by decide) (show 7 ≤ 8 by decide)); isplitl [H6]; · iexists f; iexact H6
  iexists f; iexact H7

set_option maxHeartbeats 3200000 in
/-- The whole body, on one device: it runs to the end, and its result is `acc … 8`. -/
theorem body_run (κ : GSem nD τ sig → ℕ) (c : Dev nD) (out : Vec F S512x512 .f32) (Q : PUnit → sProp 𝕄) :
    iprop(bodyPre wb x kk vv κ c out ∗ (bodyPost wb x kk vv c -∗ Q ⟨⟩))
      ⊢ wp frame (wpE (defs₀ (F := F)) 𝒱₀ (c : Thread nD τ) none) Set.univ
          (body xM (Memref.isWhole_whole _) oM (Memref.isWhole_whole _) kM (Memref.isWhole_whole _) vM (Memref.isWhole_whole _)
            yM (Memref.isWhole_whole _) gM (Memref.isWhole_whole _) hM (Memref.isWhole_whole _) cc0_scratch2 cc0_scratch3) Q := by
  unfold body bodyPre toks creds
  simp only [Prog.lift, Prog.bind_op, Prog.bind_ret, wp_deviceId]
  simp only [wp_bind]
  rw [bigSep16 (fun k : Fin 16 => atPos ER (cell c k) 0 ∅ 0)]
  iintro ⟨⟨#HR, #Hr, ⟨A0, A1, A2, A3, A4, A5, A6, A7, A8, A9, A10, A11, A12, A13, A14, A15⟩, HaB, ⟨⟨Hb0, Hb1, Hb2⟩, ⟨T0, T1, T2, T3, T4, T5⟩, ⟨T9, T10, T11, T12, T13, T14⟩⟩,
    ⟨HcB, C9, C10, C11, C12, C13, C14⟩, HO, HG, Hh, Hx, Ho, Hkk, Hv, Hy⟩, Hk⟩
  ihave Hs := (gany_cut c (show 0 ≤ 1 by decide) (show 1 ≤ 8 by decide)) $$ HG
  icases Hs with ⟨G0, HG1⟩
  ihave Hs := (gany_cut c (show 1 ≤ 2 by decide) (show 2 ≤ 8 by decide)) $$ HG1
  icases Hs with ⟨G1, HG2⟩
  ihave Hs := (gany_cut c (show 2 ≤ 3 by decide) (show 3 ≤ 8 by decide)) $$ HG2
  icases Hs with ⟨G2, HG3⟩
  ihave Hs := (gany_cut c (show 3 ≤ 4 by decide) (show 4 ≤ 8 by decide)) $$ HG3
  icases Hs with ⟨G3, HG4⟩
  ihave Hs := (gany_cut c (show 4 ≤ 5 by decide) (show 5 ≤ 8 by decide)) $$ HG4
  icases Hs with ⟨G4, HG5⟩
  ihave Hs := (gany_cut c (show 5 ≤ 6 by decide) (show 6 ≤ 8 by decide)) $$ HG5
  icases Hs with ⟨G5, HG6⟩
  iapply (run0 wb κ c out _)
  isplitl [HO Hb0 Hb1 Hb2 HcB HaB G1 G2 G3 G4 G5 HG6 Ho Hy T0 T1 T5 T9 T10 T12]
  · unfold pre0
    isplitr; · iexact HR
    isplitr; · iexact Hr
    isplitl [HO]; · iexact HO
    isplitl [Hb0]; · iexact Hb0
    isplitl [Hb1]; · iexact Hb1
    isplitl [Hb2]; · iexact Hb2
    isplitl [HcB]; · iexact HcB
    isplitl [HaB]; · iexact HaB
    isplitl [G1]; · iexact G1
    isplitl [G2]; · iexact G2
    isplitl [G3]; · iexact G3
    isplitl [G4]; · iexact G4
    isplitl [G5]; · iexact G5
    isplitl [HG6]; · iexact HG6
    isplitl [Ho]; · iexact Ho
    isplitl [Hy]; · iexact Hy
    isplitl [T0]; · iexact T0
    isplitl [T1]; · iexact T1
    isplitl [T5]; · iexact T5
    isplitl [T9]; · iexact T9
    isplitl [T10]; · iexact T10
    iexact T12
  unfold post0
  iintro ⟨HO, HaB, C0, C1, C5, Hrr, Hy, P3, #R11, P5, P6, #R13, #R14⟩
  iapply (run1 wb x kk vv κ c _)
  isplitl [HO Hrr Hx Hkk Hv Hy Hh C9 A9 T3 T13 T2 T11 P5 P3]
  · unfold pre1 chk
    isplitr; · iexact HR
    isplitr; · iexact Hr
    isplitl [HO]; · iexact HO
    isplitl [Hrr]; · iexact Hrr
    isplitl [Hx Hkk Hv Hy Hh]
    · isplitl [Hx]; · iexact Hx
      isplitl [Hkk]; · iexact Hkk
      isplitl [Hv]; · iexact Hv
      isplitl [Hy]; · iexact Hy
      iexact Hh
    isplitl [C9]; · iexact C9
    isplitl [A9]; · iexact A9
    isplitl [T3]; · iexact T3
    isplitl [T13]; · iexact T13
    isplitl [T2]; · iexact T2
    isplitl [T11]; · iexact T11
    isplitl [P5]; · iexact P5
    isplitl [P3]; · iexact P3
    isplitr; · iexact R13
    iexact R11
  unfold post1
  iintro ⟨HO, Hrr, Hc, A9, C3, C2, G1⟩
  iapply (run2 wb x kk vv κ c _)
  isplitl [HO Hc C10 A10 C11 A11 T4 T14 P6]
  · unfold pre2
    isplitr; · iexact HR
    isplitr; · iexact Hr
    isplitl [HO]; · iexact HO
    isplitl [Hc]; · iexact Hc
    isplitl [C10]; · iexact C10
    isplitl [A10]; · iexact A10
    isplitl [C11]; · iexact C11
    isplitl [A11]; · iexact A11
    isplitl [T4]; · iexact T4
    isplitl [T14]; · iexact T14
    isplitl [P6]; · iexact P6
    iexact R14
  unfold post2
  iintro ⟨HO, Hc, A10, A11, C4, G2, G3⟩
  iapply (run3 wb x kk vv κ c _)
  isplitl [HO Hc C12 A12 C13 A13]
  · unfold pre3
    isplitr; · iexact HR
    isplitl [HO]; · iexact HO
    isplitl [Hc]; · iexact Hc
    isplitl [C12]; · iexact C12
    isplitl [A12]; · iexact A12
    isplitl [C13]; · iexact C13
    iexact A13
  unfold post3
  iintro ⟨HO, Hc, A12, A13, G4, G5⟩
  iapply (run4 wb x kk vv κ c _)
  isplitl [HO Hc C14 A14]
  · unfold pre4
    isplitr; · iexact HR
    isplitl [HO]; · iexact HO
    isplitl [Hc]; · iexact Hc
    isplitl [C14]; · iexact C14
    iexact A14
  unfold post4
  iintro ⟨HO, Hc, A14, G6, G7⟩
  imod (close_bar wb κ c) $$ [HaB] with Hbar
  · isplitr; · iexact HR
    iexact HaB
  iapply wp_fupd
  iapply (run5 wb κ c _)
  isplitl [HO C0 C1 C5 C2 C3 C4 A0 A1 A5 A2 A3 A4]
  · unfold pre5
    isplitr; · iexact HR
    isplitl [HO]; · iexact HO
    isplitl [C0]; · iexact C0
    isplitl [C1]; · iexact C1
    isplitl [C5]; · iexact C5
    isplitl [C2]; · iexact C2
    isplitl [C3]; · iexact C3
    isplitl [C4]; · iexact C4
    isplitl [A0]; · iexact A0
    isplitl [A1]; · iexact A1
    isplitl [A5]; · iexact A5
    isplitl [A2]; · iexact A2
    isplitl [A3]; · iexact A3
    iexact A4
  unfold post5
  iintro ⟨HO, A0, A1, A5, A2, A3, A4, O1, O2, O3, S2, S1, S3⟩
  imod (close_cells wb κ c) $$ [A0 A1 A2 A3 A4 A5 A6 A7 A8 A9 A10 A11 A12 A13 A14 A15] with Hsem
  · isplitr; · iexact HR
    rw [bigSep16 (fun k : Fin 16 => atPos ER (cell c k) (endAt k) ∅ 0)]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  imodintro
  iapply Hk
  unfold bodyPost chk
  icases Hc with ⟨Hx, Hkk, Hv, Hy, Hh⟩
  isplitl [HO]; · iexact HO
  isplitl [Hbar]; · iexact Hbar
  isplitl [Hsem]; · iexact Hsem
  isplitl [G0 S1 S2 G1 S3 G2 G3 G4 G5 G6 G7]
  · iapply (slots_back c (gath wb c))
    isplitl [G0]; · iexact G0
    isplitl [S1 S2 G1]
    · isplitl [S1]; · iexact S1
      isplitl [S2]; · iexact S2
      iexact G1
    isplitl [S3 G2 G3]
    · isplitl [S3]; · iexact S3
      isplitl [G2]; · iexact G2
      iexact G3
    isplitl [G4]; · iexact G4
    isplitl [G5]; · iexact G5
    isplitl [G6]; · iexact G6
    iexact G7
  isplitl [Hh]; · iexact Hh
  isplitl [Hx]; · iexact Hx
  isplitl [O1 O2 O3 Hrr]
  · iapply (own_back c (wb c))
    isplitl [O1]; · iexact O1
    isplitl [O2]; · iexact O2
    isplitl [O3]; · iexact O3
    iexact Hrr
  isplitl [Hkk]; · iexact Hkk
  isplitl [Hv]; · iexact Hv
  iexact Hy

end Cert.KernelIdeal.Body

end
-- ==== Proof.Deal.lean ====
module

public import Idealize.ShloMosaic.Lib.Pipeline.RegionTalk
public import proofs.«01_k».proof.Proof.Whole

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! # What the launch deals each device -/

variable (wb : Dev nD → Vec F S512x512 .i8)

/-! ## Tokens: one per duty, each handed to the device that pays it -/

/-- The cell and the duty of the `k`-th token: sixteen transfer cells, then the three barrier units. -/
abbrev tsem (k : Fin 19) : SemLoc sig := if h : k.val < 16 then osem ⟨k.val, h⟩ else .reg bar
abbrev tduty (k : Fin 19) : Fin 3 := if k.val < 16 then 0 else Fin.ofNat 3 (k.val - 16)
theorem tk_inj : Function.Injective fun k : Fin 19 => (tsem k, tduty k) := by decide

/-- Every token of round 0. -/
def allToks : Finset (GSem nD τ sig × ℕ × Fin 3) :=
  Finset.univ.map ⟨fun ck : Dev nD × Fin 19 => (((ck.1 : Thread nD τ), tsem ck.2), 0, tduty ck.2), fun _ _ h =>
    Prod.ext (congrArg (fun t : GSem nD τ sig × ℕ × Fin 3 => t.1.1.1) h)
      (tk_inj (Prod.ext (congrArg (fun t : GSem nD τ sig × ℕ × Fin 3 => t.1.2) h) (congrArg (fun t : GSem nD τ sig × ℕ × Fin 3 => t.2.2) h)))⟩

def leftE : Dev nD ≃ Dev nD := ⟨left, right, right_left, left_right⟩
def rightE : Dev nD ≃ Dev nD := ⟨right, left, left_right, right_left⟩
def partE : Dev nD ≃ Dev nD := ⟨part, part, part_part, part_part⟩

/-- What every device has of its own, every device may have of a peer's. -/
theorem around (e : Dev nD ≃ Dev nD) (Φ : Dev nD → sProp 𝕄) : bigSep Finset.univ Φ ⊢ bigSep Finset.univ fun c => Φ (e c) :=
  Entails.of_eq (bigSep_univ_equiv e Φ)

abbrev tokAt (k : Fin 16) (c : Dev nD) : sProp 𝕄 := dutyTok ER (cell c k) 0 0
abbrev tokBar (d : Fin 3) (c : Dev nD) : sProp 𝕄 := dutyTok ER (barCell c) 0 d

theorem bigSep19 (Φ : Fin 19 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

/-- The tokens made at launch are the tokens of the devices that own the cells. -/
theorem allToks_eq : bigSep allToks (fun x => (dutyTok ER x.1 x.2.1 x.2.2 : sProp 𝕄))
    = bigSep Finset.univ fun c : Dev nD => iprop(tokAt 0 c ∗ tokAt 1 c ∗ tokAt 2 c ∗ tokAt 3 c ∗ tokAt 4 c ∗ tokAt 5 c ∗ tokAt 6 c
        ∗ tokAt 7 c ∗ tokAt 8 c ∗ tokAt 9 c ∗ tokAt 10 c ∗ tokAt 11 c ∗ tokAt 12 c ∗ tokAt 13 c ∗ tokAt 14 c ∗ tokAt 15 c
        ∗ tokBar 0 c ∗ tokBar 1 c ∗ tokBar 2 c) := by
  unfold allToks; rw [bigSep_map, bigSep_univ_prod]
  exact bigSep_congr fun c _ => by rw [bigSep19]; rfl

/-- Handed round, they are the tokens of the devices that pay. -/
theorem toks_around : bigSep allToks (fun x => (dutyTok ER x.1 x.2.1 x.2.2 : sProp 𝕄)) ⊢ bigSep Finset.univ fun c : Dev nD => toks c := by
  rw [allToks_eq]
  unfold toks
  simp only [bigSep_sep']
  iintro ⟨T0, T1, T2, T3, T4, T5, -, -, -, T9, T10, T11, T12, T13, T14, -, B0, B1, B2⟩
  isplitl [B0 B1 B2]
  · isplitl [B0]; · iapply (around leftE (tokBar 0)); iexact B0
    isplitl [B1]; · iapply (around rightE (tokBar 1)); iexact B1
    iapply (around partE (tokBar 2)); iexact B2
  isplitl [T0 T1 T2 T3 T4 T5]
  · isplitl [T0]; · iexact T0
    isplitl [T1]; · iexact T1
    isplitl [T2]; · iexact T2
    isplitl [T3]; · iexact T3
    isplitl [T4]; · iexact T4
    iexact T5
  isplitl [T9]; · iapply (around rightE (tokAt 9)); iexact T9
  isplitl [T10]; · iapply (around leftE (tokAt 10)); iexact T10
  isplitl [T11]; · iapply (around rightE (tokAt 11)); iexact T11
  isplitl [T12]; · iapply (around partE (tokAt 12)); iexact T12
  isplitl [T13]; · iapply (around partE (tokAt 13)); iexact T13
  iapply (around partE (tokAt 14)); iexact T14

/-! ## Credit: what the others owe a device -/

theorem cell_eq {a b : Dev nD} {k k' : Fin 16} : cell a k = cell b k' ↔ a = b ∧ k = k' :=
  ⟨fun h => ⟨congrArg (fun g : GSem nD τ sig => g.1.1) h, osem_inj (congrArg Prod.snd h)⟩, fun ⟨h, h'⟩ => by rw [h, h']⟩
theorem barCell_eq {a b : Dev nD} : barCell a = barCell b ↔ a = b :=
  ⟨fun h => congrArg (fun g : GSem nD τ sig => g.1.1) h, fun h => by rw [h]⟩
theorem cell_ne_bar {a b : Dev nD} {k : Fin 16} : cell a k = barCell b ↔ False :=
  ⟨fun h => osem_ne_bar k (congrArg Prod.snd h), False.elim⟩
theorem bar_ne_cell {a b : Dev nD} {k : Fin 16} : barCell b = cell a k ↔ False :=
  ⟨fun h => osem_ne_bar k (congrArg Prod.snd h).symm, False.elim⟩
theorem eq_left {a b : Dev nD} : a = left b ↔ b = right a := ⟨fun h => by rw [h, right_left], fun h => by rw [h, left_right]⟩
theorem eq_right {a b : Dev nD} : a = right b ↔ b = left a := ⟨fun h => by rw [h, left_right], fun h => by rw [h, right_left]⟩
theorem eq_part {a b : Dev nD} : a = part b ↔ b = part a := ⟨fun h => by rw [h, part_part], fun h => by rw [h, part_part]⟩

/-- A tally over a list, at one cell. -/
theorem owe_at (g : GSem nD τ sig) : ∀ l : List (GSem nD τ sig × ℕ), owe l g () = (l.map fun a => if g = a.1 then a.2 else 0).sum
  | [] => rfl
  | a :: l => by
    rw [owe, Pi.add_apply, Finsupp.add_apply, tallyAt_apply, owe_at g l, List.map_cons, List.sum_cons, Nat.add_comm]
    simp

theorem credit_of {c : Dev nD} {sm : SemLoc sig} {n : ℕ} (h : ∑ d : Dev nD, owe (debts d) ((c : Thread nD τ), sm) () = n) :
    tallyOn ((c : Thread nD τ), sm) (launchCredit (Pipeline.owing fun d => owe (debts d)) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, h]

/-- Three units at a barrier cell, one copy at each receive cell. -/
theorem due_bar (c : Dev nD) : ∑ d : Dev nD, owe (debts d) (barCell c) () = 3 := by
  have hl := fun d => eq_left (a := c) (b := d); have hr := fun d => eq_right (a := c) (b := d); have hp := fun d => eq_part (a := c) (b := d)
  simp only [owe_at, debts, List.map_cons, List.map_nil, List.sum_cons, List.sum_nil, barCell_eq, bar_ne_cell, if_false,
    hl, hr, hp, Nat.add_zero, Finset.sum_add_distrib, Finset.sum_ite_eq', Finset.sum_ite_eq, Finset.mem_univ, if_true]
  rfl
theorem due_cell (c : Dev nD) (k : Fin 16) (hk : recvs k = true) : ∑ d : Dev nD, owe (debts d) (cell c k) () = amt k := by
  have h : k = 9 ∨ k = 10 ∨ k = 11 ∨ k = 12 ∨ k = 13 ∨ k = 14 := by revert hk; revert k; decide
  have hl := fun d => eq_left (a := c) (b := d); have hr := fun d => eq_right (a := c) (b := d); have hp := fun d => eq_part (a := c) (b := d)
  simp only [owe_at, debts, List.map_cons, List.map_nil, List.sum_cons, List.sum_nil, cell_eq, cell_ne_bar, if_false,
    hl, hr, hp, Nat.add_zero, Nat.zero_add, Finset.sum_add_distrib, ite_and]
  rcases h with rfl | rfl | rfl | rfl | rfl | rfl <;> simp [amt]

/-- The credit the launch leaves a device is the credit its waits consume. -/
theorem creds_of (c : Dev nD) : (Pipeline.launchCred (fun d => owe (debts d)) c : sProp 𝕄) ⊢ creds c := by
  unfold Pipeline.launchCred creds
  refine (bigSep_subset (Finset.subset_univ [SemLoc.reg bar, osem 9, osem 10, osem 11, osem 12, osem 13, osem 14].toFinset)).trans ?_
  rw [bigSep_eq_bigSepL_of_eq _ rfl (by decide)]
  rw [← credit_of (due_bar c), ← credit_of (due_cell c 9 (by decide)), ← credit_of (due_cell c 10 (by decide)), ← credit_of (due_cell c 11 (by decide)),
    ← credit_of (due_cell c 12 (by decide)), ← credit_of (due_cell c 13 (by decide)), ← credit_of (due_cell c 14 (by decide))]
  exact BI.Entails.refl _

/-! ## Opening the transfer cells -/

/-- A device's part of the protocol from launch to its kernel: the records, its barrier position, the right to open its
    transfer cells, tokens and credit. -/
def talk (c : Dev nD) : sProp 𝕄 :=
  iprop(∃ κ, records wb κ ∗ atPos ER (barCell c) 0 ∅ 0 ∗ (bigSep Finset.univ fun k : Fin 16 => openTok ER (cell c k)) ∗ toks c ∗ creds c)

/-- The same with the transfer cells open. -/
def opened (c : Dev nD) : sProp 𝕄 :=
  iprop(∃ κ, records wb κ ∗ (bigSep Finset.univ fun k : Fin 16 => reached ER (cell c k) 0)
    ∗ (bigSep Finset.univ fun k : Fin 16 => atPos ER (cell c k) 0 ∅ 0) ∗ atPos ER (barCell c) 0 ∅ 0 ∗ toks c ∗ creds c)

theorem open_all (c : Dev nD) : iprop(talk wb c ∗ Pipeline.ownSems0 osem c ∗ levAts L lv) ⊢ (|={Set.univ}=> opened wb c : sProp 𝕄) := by
  unfold talk opened Pipeline.ownSems0
  iintro ⟨⟨%κ, #HR, Ha, Hop, Ht, Hc⟩, Hs, -⟩
  ihave Hk := (bigSep_with_persistent (R := records wb κ) (S := Finset.univ) (Φ := fun k : Fin 16 => (openTok ER (cell c k) : sProp 𝕄))
    (Ψ := fun k => iprop(cellInv ER (rd wb) (κ (cell c k)) (cell c k) ∗ openTok ER (cell c k))) (fun k _ => by
      iintro ⟨#HR, Ho⟩
      isplitr; · iapply (inv_cell wb κ c k); iexact HR
      iexact Ho)) $$ [Hop]
  · isplitr; · iexact HR
    iexact Hop
  imod (Rounds.cells_open ER (rd wb) Finset.univ (fun k : Fin 16 => cell c k) (fun k => κ (cell c k)) (fun k _ => Set.mem_univ _)) $$ [Hk Hs] with H
  · isplitl [Hk]; · iexact Hk
    iexact Hs
  ihave H' := (Entails.of_eq (bigSep_sep' (s := Finset.univ) (Φ := fun k : Fin 16 => (atPos ER (cell c k) 0 ∅ 0 : sProp 𝕄)) (Ψ := fun k => reached ER (cell c k) 0))) $$ H
  icases H' with ⟨Hat, Hre⟩
  imodintro
  iexists κ
  isplitr; · iexact HR
  isplitl [Hre]; · iexact Hre
  isplitl [Hat]; · iexact Hat
  isplitl [Ha]; · iexact Ha
  isplitl [Ht]; · iexact Ht
  iexact Hc

/-! ## The launch -/

/-- The protocol's launch element, parked on device 0 until the devices' resources are made. -/
abbrev fund : sProp 𝕄 := BI.own (ER (launchOf barCells scCells allToks))
def park (c : Dev nD) : sProp 𝕄 := if c = 0 then fund else iprop(emp)
theorem park_eq : bigSep Finset.univ (park (F := F)) = (fund : sProp 𝕄) := by
  rw [bigSep_univ_at _ (0 : Dev nD), bigSep_congr (s := Finset.univ.erase (0 : Dev nD)) (Ψ := fun _ => (BI.emp : sProp 𝕄))
      fun c hc => by unfold park; rw [if_neg (Finset.ne_of_mem_erase hc)]; rfl, BI.bigSep_emp_const]
  unfold park; rw [if_pos rfl]
  exact BI.equiv_iff.mp sep_emp

theorem sems_eq (c : Dev nD) : (unscopedSems0 c : sProp 𝕄) = semVal (barCell c) 0 := by
  unfold unscopedSems0
  rw [show (Finset.univ.filter fun sm : SemLoc sig => ¬ sm.isScoped .tc) = {SemLoc.reg bar} from by decide, BI.bigSep_singleton]

/-- What a device enters its host program with. -/
def start (c : Dev nD) : sProp 𝕄 := iprop(talk wb c ∗ owing c (debts c) ∗ ∃ r, prngReg c r)

theorem launch_all (ρ : Dev nD → PrngReg) :
    iprop((bigSep Finset.univ fun c : Dev nD => iprop(unscopedSems0 c ∗ owes (c : Thread nD τ) (owe (debts c)) ∅
          ∗ Pipeline.launchCred (fun d => owe (debts d)) c ∗ prngReg c (ρ c) ∗ park c)) ∗ levAts L lv)
      ⊢ (|={Set.univ}=> bigSep Finset.univ (start wb) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hcr : bigSep Finset.univ (fun c : Dev nD => (Pipeline.launchCred (fun d => owe (debts d)) c : sProp 𝕄)) ⊢ bigSep Finset.univ fun c : Dev nD => creds c :=
    bigSep_mono fun c _ => creds_of c
  have hop : bigSep scCells (fun g => (openTok ER g : sProp 𝕄))
      ⊢ bigSep Finset.univ (fun c : Dev nD => bigSep Finset.univ fun k : Fin 16 => (openTok ER (cell c k) : sProp 𝕄)) :=
    Entails.of_eq (by rw [bigSep_map, bigSep_univ_prod]; rfl)
  simp only [sems_eq, bigSep_sep', park_eq]
  iintro ⟨⟨Hv, HO, Hc, Hp, Hu⟩, #Hlev⟩
  imod (Rounds.fund_launch ER (rd wb) disjoint_cells (fun g _ h => h) allToks) $$ [Hv Hu] with ⟨%κ, -, #Hinv, #Hr, Hat, Hopen, Htok⟩
  · isplitl [Hv]
    · iapply hv; iexact Hv
    · iexact Hu
  ihave Hat' := hat $$ Hat
  ihave Hop' := hop $$ Hopen
  ihave Htk := (toks_around (F := F)) $$ Htok
  ihave Hcr := hcr $$ Hc
  imodintro
  iapply (bigSep_with_persistent (R := records wb κ) (S := Finset.univ)
    (Φ := fun c : Dev nD => iprop((atPos ER (barCell c) 0 ∅ 0 ∗ (bigSep Finset.univ fun k : Fin 16 => openTok ER (cell c k)) ∗ toks c ∗ creds c)
      ∗ owes (c : Thread nD τ) (owe (debts c)) ∅ ∗ prngReg c (ρ c))) fun c _ => by
        unfold start talk
        iintro ⟨#HR, ⟨H1, H2, H3, H4⟩, HO, Hp⟩
        isplitl [H1 H2 H3 H4]
        · iexists κ
          isplitr; · iexact HR
          isplitl [H1]; · iexact H1
          isplitl [H2]; · iexact H2
          isplitl [H3]; · iexact H3
          iexact H4
        isplitl [HO]; · iexists ∅; iexact HO
        iexists (ρ c); iexact Hp)
  isplitr
  · unfold records
    isplitr; · iexact Hinv
    isplitr; · iexact Hr
    iexact Hlev
  simp only [bigSep_sep']
  isplitl [Hat' Hop' Htk Hcr]
  · isplitl [Hat']; · iexact Hat'
    isplitl [Hop']; · iexact Hop'
    isplitl [Htk]; · iexact Htk
    iexact Hcr
  isplitl [HO]; · iexact HO
  iexact Hp

end Cert.KernelIdeal.Body

end
-- ==== Proof.Launch.lean ====
module

public import Idealize.ShloMosaic.Lib.Pipeline.RegionTalk
public import Idealize.ShloMosaic.Lib.Pipeline.ValueKit
public import proofs.«01_k».proof.Proof.Gen.KernelIdeal.Regions
public import proofs.«01_k».proof.Proof.Gen.KernelIdeal.Points
public import proofs.«01_k».proof.Proof.Deal

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

open Idealize.ShloMosaic.Pipeline (Dat BodyObligation)

/-! # The kernel in @main: its region, and the run of the program -/

variable (m : (ℓ : Loc nD τ sig) → Buf (Elt F) ℓ)

/-! ## What the kernel is entered with -/

abbrev wbOf (c : Dev nD) : Vec F S512x512 .i8 := V9 m c main_v38
abbrev xOf (c : Dev nD) : Vec F S512x512 .bf16 := V9 m c main_v41
abbrev kOf (c : Dev nD) : Vec F S8x8x256x64 .bf16 := V9 m c main_v18
abbrev vOf (c : Dev nD) : Vec F S8x8x256x64 .bf16 := V9 m c main_v40
/-- The kernel's result on device `c`: all eight blocks added up. -/
def outOf (c : Dev nD) : Vec F S512x512 .f32 := acc (wbOf m) (xOf m c) (kOf m c) (vOf m c) c 8

/-- The invariant before the kernel body: the scratch buffers, the generator register, the open protocol. After: every
    counter at zero. -/
def before (c : Dev nD) : sProp 𝕄 :=
  iprop((gany c (rows 0 8) ∗ ∃ d, owns (c : Thread nD τ) hM fullShare d) ∗ (∃ r, prngReg c r) ∗ opened (wbOf m) c)
def after (c : Dev nD) : sProp 𝕄 :=
  iprop((gany c (rows 0 8) ∗ ∃ d, owns (c : Thread nD τ) hM fullShare d) ∗ (∃ r, prngReg c r)
    ∗ (bigSep Finset.univ fun k : Fin 16 => semVal (cell c k) 0) ∗ semVal (barCell c) 0)

/-- The proof data of the kernel's one point. -/
def dat0 (c : Dev nD) : Dat τ (Elt F) Unit ℕ UU ℕ cfg0 c where
  A w := V9 m c (Proc.devRef .tc (Pipeline.arrRef spec0 w))
  after w _ := match w with
    | ⟨0, _⟩ => xOf m c
    | ⟨1, _⟩ => wbOf m c
    | ⟨2, _⟩ => kOf m c
    | ⟨3, _⟩ => vOf m c
    | ⟨4, _⟩ => outOf m c
  Φ t := if t.val = 0 then before m c else after c
  q _ := fullShare
  owed t := if t.val = 0 then owe (debts c) else 0

theorem before_0 (c : Dev nD) (d) : (dat0 m c).before 0 t0_0 d = xOf m c := by
  unfold Pipeline.Dat.before; rw [if_pos (by decide)]; funext i; show V9 m c main_v41 _ = V9 m c main_v41 i; congr 1; blk_simp
  funext a; apply Fin.ext; exact win0_0.rect_emb_val_of_index_zero t0_0 a (by revert a; decide) i
theorem before_1 (c : Dev nD) (d) : (dat0 m c).before 1 t0_0 d = wbOf m c := by
  unfold Pipeline.Dat.before; rw [if_pos (by decide)]; funext i; show V9 m c main_v38 _ = V9 m c main_v38 i; congr 1; blk_simp
  funext a; apply Fin.ext; exact win0_1.rect_emb_val_of_index_zero t0_0 a (by revert a; decide) i
theorem before_2 (c : Dev nD) (d) : (dat0 m c).before 2 t0_0 d = kOf m c := by
  unfold Pipeline.Dat.before; rw [if_pos (by decide)]; funext i; show V9 m c main_v18 _ = V9 m c main_v18 i; congr 1; blk_simp
  funext a; apply Fin.ext; exact win0_2.rect_emb_val_of_index_zero t0_0 a (by revert a; decide) i
theorem before_3 (c : Dev nD) (d) : (dat0 m c).before 3 t0_0 d = vOf m c := by
  unfold Pipeline.Dat.before; rw [if_pos (by decide)]; funext i; show V9 m c main_v40 _ = V9 m c main_v40 i; congr 1; blk_simp
  funext a; apply Fin.ext; exact win0_3.rect_emb_val_of_index_zero t0_0 a (by revert a; decide) i

theorem out_last (c : Dev nD) : (dat0 m c).arrAt 4 cfg0.N = outOf m c := by
  refine (dat0 m c).arrAt_eq_of_after_last 4 t0_0 (by decide +kernel) _ fun j => ?_
  blk_simp; rfl

/-- The program's regions' proof data: the one kernel's. -/
def pdats : (p : Fin 1) → (c : Dev nD) → Dat τ (Elt F) Unit ℕ UU ℕ (cfgs p) c := fun p c => match p with | ⟨0, _⟩ => dat0 m c

/-- What the kernel leaves in its result's array. -/
def outs : Outs (F := F) := fun _ r c => Function.update (fun r : Ref sig .tc => (V9 m c r : Buf (Elt F) ((c : Thread nD τ).loc r))) main_v42 (outOf m c) r

theorem outs_v42 (c : Dev nD) : V10 m (outs m) c main_v42 = outOf m c := by
  rw [V10, Function.update_self, outs, Function.update_self]

/-! ## The kernel body's obligation -/

set_option maxRecDepth 20000 in
theorem body_run' (κ : GSem nD τ sig → ℕ) (c : Dev nD) (x : Vec F S512x512 .bf16) (wb : Dev nD → Vec F S512x512 .i8) (kk vv : Vec F S8x8x256x64 .bf16)
    (out : Vec F S512x512 .f32) (Q : PUnit → sProp 𝕄) :
    iprop(bodyPre wb x kk vv κ c out ∗ (bodyPost wb x kk vv c -∗ Q ⟨⟩))
      ⊢ wp frame (wpE (defs₀ (F := F)) 𝒱₀ (c : Thread nD τ) none) Set.univ (bodyAt0 t0_0) Q := by
  unfold bodyAt0; rw [body_eq]; exact body_run wb x kk vv κ c out Q

theorem owes_in {c : Dev nD} (dat : Dat τ (Elt F) Unit ℕ UU ℕ cfg0 c) (t : Fin (cfg0.N + 1)) (O : CellTallies nD τ sig Unit)
    (h0 : dat.owed t = O) (W : Waits sig Unit) (hr : dat.recorded t = Set.univ) : (owes (c : Thread nD τ) O W : sProp 𝕄) ⊢ dat.owesAt () t := by
  unfold Dat.owesAt Pipeline.owesWithin Dat.bound; rw [h0, hr]
  iintro HO; iexists W; isplitr; · ipureintro; exact fun _ _ => Or.inl trivial
  iexact HO
theorem owes_out {c : Dev nD} (dat : Dat τ (Elt F) Unit ℕ UU ℕ cfg0 c) (t : Fin (cfg0.N + 1)) (O : CellTallies nD τ sig Unit)
    (h0 : dat.owed t = O) : (dat.owesAt () t : sProp 𝕄) ⊢ iprop(∃ W, owes (c : Thread nD τ) O W) := by
  unfold Dat.owesAt Pipeline.owesWithin; rw [h0]
  iintro ⟨%W, -, HO⟩; iexists W; iexact HO

theorem owed_first (c : Dev nD) : (dat0 m c).owed t0_0.castSucc = owe (debts c) := by
  show (if (t0_0.castSucc : Fin (cfg0.N + 1)).val = 0 then owe (debts c) else 0) = _; exact if_pos rfl
theorem owed_last (c : Dev nD) : (dat0 m c).owed t0_0.succ = 0 := by
  show (if (t0_0.succ : Fin (cfg0.N + 1)).val = 0 then owe (debts c) else 0) = _; exact if_neg (by decide)

theorem phi_first (c : Dev nD) : (dat0 m c).Φ t0_0.castSucc = before m c := by
  show (if (t0_0.castSucc : Fin (cfg0.N + 1)).val = 0 then before m c else after c) = _; exact if_pos rfl
theorem phi_last (c : Dev nD) : (dat0 m c).Φ t0_0.succ = after c := by
  show (if (t0_0.succ : Fin (cfg0.N + 1)).val = 0 then before m c else after c) = _; exact if_neg (by decide)

set_option backward.isDefEq.respectTransparency.types false in
set_option maxRecDepth 20000 in
set_option maxHeartbeats 1000000 in
theorem body0 (c : Dev nD) : BodyObligation (dat0 m c) (defs₀ (F := F)) 𝒱₀ () Set.univ := fun t => by
  obtain rfl := fin_N0 t
  rw [bigSep_W0, bigSep_W0]
  show iprop((dat0 m c).Φ t0_0.castSucc ∗ (dat0 m c).owesAt () t0_0.castSucc
      ∗ (∃ d, owns (c : Thread nD τ) xM fullShare ((dat0 m c).before 0 t0_0 d)) ∗ (∃ d, owns (c : Thread nD τ) oM fullShare ((dat0 m c).before 1 t0_0 d))
      ∗ (∃ d, owns (c : Thread nD τ) kM fullShare ((dat0 m c).before 2 t0_0 d)) ∗ (∃ d, owns (c : Thread nD τ) vM fullShare ((dat0 m c).before 3 t0_0 d))
      ∗ (∃ d, owns (c : Thread nD τ) yM fullShare ((dat0 m c).before 4 t0_0 d)))
    ⊢ wp frame (wpE (defs₀ (F := F)) 𝒱₀ (c : Thread nD τ) none) Set.univ (bodyAt0 t0_0) fun _ => iprop((dat0 m c).Φ t0_0.succ ∗ (dat0 m c).owesAt () t0_0.succ
      ∗ owns (c : Thread nD τ) xM fullShare (xOf m c) ∗ owns (c : Thread nD τ) oM fullShare (wbOf m c) ∗ owns (c : Thread nD τ) kM fullShare (kOf m c)
      ∗ owns (c : Thread nD τ) vM fullShare (vOf m c) ∗ owns (c : Thread nD τ) yM fullShare (outOf m c))
  rw [phi_first, phi_last]
  simp only [before_0, before_1, before_2, before_3, owns_whole (c : Thread nD τ) cc0_stg1_0]
  unfold before after opened
  iintro ⟨⟨⟨Hg, Hh⟩, Hp, ⟨%κ, HR, Hre, Hat, Hb, Ht, Hc⟩⟩, HO, ⟨%d0, H0⟩, ⟨%d1, H1⟩, ⟨%d2, H2⟩, ⟨%d3, H3⟩, ⟨%d4, H4⟩⟩
  ihave HO' := (owes_out (dat0 m c) _ _ (owed_first m c)) $$ HO
  iapply (body_run' κ c (xOf m c) (wbOf m) (kOf m c) (vOf m c) ((dat0 m c).before 4 t0_0 d4) _)
  unfold bodyPre bodyPost
  isplitr [Hp]
  · isplitl [HR]; · iexact HR
    isplitl [Hre]; · iexact Hre
    isplitl [Hat]; · iexact Hat
    isplitl [Hb]; · iexact Hb
    isplitl [Ht]; · iexact Ht
    isplitl [Hc]; · iexact Hc
    isplitl [HO']; · iexact HO'
    isplitl [Hg]; · iexact Hg
    isplitl [Hh]; · iexact Hh
    isplitl [H0]; · iexact H0
    isplitl [H1]; · iexact H1
    isplitl [H2]; · iexact H2
    isplitl [H3]; · iexact H3
    iexact H4
  iintro ⟨⟨%W, HO⟩, Hb, Hs, Hg, Hh, H0, H1, H2, H3, H4⟩
  isplitl [Hb Hs Hg Hh Hp]
  · isplitl [Hg Hh]
    · isplitl [Hg]; · iexact Hg
      iexact Hh
    isplitl [Hp]; · iexact Hp
    isplitl [Hs]; · iexact Hs
    iexact Hb
  isplitl [HO]; · iapply (owes_in (dat0 m c) t0_0.succ 0 (owed_last m c) W rfl); iexact HO
  isplitl [H0]; · iexact H0
  isplitl [H1]; · iexact H1
  isplitl [H2]; · iexact H2
  isplitl [H3]; · iexact H3
  iexact H4

/-! ## The region -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of the program that are no array of the kernel's. -/
abbrev restRefs : Finset (DevRef τ sig) := Pipeline.ucRefs τ sig \ Pipeline.arrRefs (τ := τ) spec0

theorem debts_lv (c : Dev nD) : ∀ a ∈ debts c, (() : Unit) ∈ L a.1 ∧ 0 < lv a.1 () := by
  intro a ha
  fin_cases ha <;> exact ⟨by rw [L_tc]; exact Finset.mem_singleton_self _, Nat.le_of_ble_eq_true rfl⟩

theorem scratch_in (c : Dev nD) : (Pipeline.scopedRest (Ix := Unit) (Name := ℕ) (U := UU) (Lvl := ℕ) (Val := Elt F) spec0 c : sProp 𝕄)
    ⊢ iprop(gany c (rows 0 8) ∗ ∃ d, owns (c : Thread nD τ) hM fullShare d) := by
  rw [scopedRest0_eq]
  unfold gany
  simp only [owns_whole, rows_all]
  exact BI.Entails.refl _
theorem scratch_out (c : Dev nD) : iprop(gany c (rows 0 8) ∗ ∃ d, owns (c : Thread nD τ) hM fullShare d)
    ⊢ (Pipeline.scopedRest (Ix := Unit) (Name := ℕ) (U := UU) (Lvl := ℕ) (Val := Elt F) spec0 c : sProp 𝕄) := by
  rw [scopedRest0_eq]
  unfold gany
  simp only [owns_whole, rows_all]
  exact BI.Entails.refl _

theorem cut0 : Pipeline.LevelCutOwed (pcfgs (F := F)) adm (pdats m) () L lv 0 fun _ => 0 where
  hι c w s := by rw [L_tc]; exact Finset.mem_singleton_self _
  hιb c w s := by fin_cases w <;> exact Nat.le_of_ble_eq_true rfl
  hD c t g i h := by
    have e : (pdats m 0 c).owed t = if t.val = 0 then owe (debts c) else 0 := rfl
    rw [e] at h
    split at h
    · obtain ⟨a, ha, rfl⟩ := owe_pos h
      exact debts_lv c a ha
    · exact absurd h (Nat.lt_irrefl 0)

theorem end_0 (c : Dev nD) : (dat0 m c).arrAt 0 cfg0.N = V10 m (outs m) c main_v41 :=
  ((dat0 m c).arrAt_in 0 rfl _).trans (V10_of m (outs m) c main_v41 (by decide)).symm
theorem end_1 (c : Dev nD) : (dat0 m c).arrAt 1 cfg0.N = V10 m (outs m) c main_v38 :=
  ((dat0 m c).arrAt_in 1 rfl _).trans (V10_of m (outs m) c main_v38 (by decide)).symm
theorem end_2 (c : Dev nD) : (dat0 m c).arrAt 2 cfg0.N = V10 m (outs m) c main_v18 :=
  ((dat0 m c).arrAt_in 2 rfl _).trans (V10_of m (outs m) c main_v18 (by decide)).symm
theorem end_3 (c : Dev nD) : (dat0 m c).arrAt 3 cfg0.N = V10 m (outs m) c main_v40 :=
  ((dat0 m c).arrAt_in 3 rfl _).trans (V10_of m (outs m) c main_v40 (by decide)).symm
theorem end_4 (c : Dev nD) : (dat0 m c).arrAt 4 cfg0.N = V10 m (outs m) c main_v42 := (out_last m c).trans (outs_v42 m c).symm
theorem out_mem : (Proc.devRef .tc main_v42 : DevRef τ sig) ∈ Pipeline.arrRefs (τ := τ) spec0 := by decide
theorem rest_same (c : Dev nD) (b : DevRef τ sig) (hb : b ∈ restRefs) : V10 m (outs m) c b = V9 m c b := by
  rw [V10, Function.update_of_ne]
  rintro rfl
  exact (Finset.mem_sdiff.mp hb).2 out_mem

set_option backward.isDefEq.respectTransparency.types false in
/-- The kernel's region: entered from the buffers the host operations left and this device's part of the protocol, owing its
    barrier units and copies; left with the result in its array, owing nothing, every counter at zero. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) kit0 rfl (fun c => (body0 m c).loose)
    (fun _ => 0) (fun c => owe (debts c)) (fun c => (owed_first m c).trans (zero_add _).symm)
    (fun c => owed_last m c) (fun _ => rfl) (fun _ w => by fin_cases w <;> rfl)
    (V9 m) (V10 m (outs m)) (fun c b hb => rest_same m c b (Finset.mem_sdiff.mp hb).1)
    (talk (wbOf m)) (fun c => semVal (barCell c) 0) (opened (wbOf m)) (fun c => semVal (barCell c) 0) (open_all (wbOf m))
    (fun c => by
      rw [show (pdats m 0 c).Φ 0 = before m c from phi_first m c]
      unfold before
      iintro ⟨Hs, Hp, -, HX⟩
      isplitl [Hs]; · iapply (scratch_in c); iexact Hs
      isplitl [Hp]; · iexact Hp
      iexact HX)
    (fun c => by
      rw [show (pdats m 0 c).Φ (Fin.last _) = after c from phi_last m c]
      unfold after Pipeline.ownSems0 StableHlo.held
      rw [BI.bigSep_empty]
      iintro ⟨Hs, Hp, Ho, Hb⟩
      isplitl [Hs]; · iapply (scratch_out c); iexact Hs
      isplitl [Hp]; · iexact Hp
      isplitr; · iempintro
      isplitl [Ho]; · iexact Ho
      iexact Hb)
    (fun c => by iintro H; imodintro; iexact H)
    (fun _ => 0) (cut0 m) (fun _ => iprop(emp))
    (fun c w => rfl)
    (fun c w => by fin_cases w; exacts [end_0 m c, end_1 m c, end_2 m c, end_3 m c, end_4 m c])

end Cert.KernelIdeal.Body

end
-- ==== Proof.Main.lean ====
module

public import proofs.«01_k».proof.Proof.Launch

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

open Idealize.ShloMosaic.Pipeline (Dat Seg)

/-! # The run of the whole program -/

variable (m : (ℓ : Loc nD τ sig) → Buf (Elt F) ℓ) (ρ : Dev nD → PrngReg)

/-- The held buffers of the program, the kernel's arrays apart. -/
theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) restRefs W) :=
  StableHlo.held_sub_split (c : Thread nD τ) (Pipeline.arrRefs_sub_ucRefs _ (by decide)) W

/-- What rides along the host operations: before the kernel, what a device starts with; after it, its barrier's counter. -/
def ride : Fin 2 → Dev nD → sProp 𝕄
  | 0 => start (wbOf m)
  | 1 => fun c => iprop(semVal (barCell c) 0 ∗ ∃ W, owes (c : Thread nD τ) (0 : CellTallies nD τ sig Unit) W)

set_option backward.isDefEq.respectTransparency.types false in
theorem region_pre (c : Dev nD) : iprop(StableHlo.held (c : Thread nD τ) (Pipeline.ucRefs τ sig) (V9 m c) ∗ ride m 0 c) ⊢ (reg0 m).pre c := by
  show _ ⊢ iprop(StableHlo.held (c : Thread nD τ) (Pipeline.arrRefs (τ := τ) spec0) (V9 m c) ∗ (∃ r, prngReg c r)
    ∗ (StableHlo.held (c : Thread nD τ) restRefs (V9 m c) ∗ emp) ∗ talk (wbOf m) c ∗ ∃ Wd, owes (c : Thread nD τ) (0 + owe (debts c)) Wd)
  rw [held_split, zero_add]
  unfold ride start
  iintro ⟨⟨Ha, Hr⟩, HT, HO, Hp⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem region_post (c : Dev nD) : (reg0 m).post c ⊢ iprop(StableHlo.held (c : Thread nD τ) (Pipeline.ucRefs τ sig) (V10 m (outs m) c) ∗ ride m 1 c) := by
  show iprop(StableHlo.held (c : Thread nD τ) (Pipeline.arrRefs (τ := τ) spec0) (V10 m (outs m) c) ∗ (∃ r, prngReg c r)
    ∗ (StableHlo.held (c : Thread nD τ) restRefs (V10 m (outs m) c) ∗ emp) ∗ semVal (barCell c) 0
      ∗ ∃ Wd, owes (c : Thread nD τ) (0 : CellTallies nD τ sig Unit) Wd) ⊢ _
  rw [held_split]
  unfold ride
  iintro ⟨Ha, -, ⟨Hr, -⟩, Hb, HO⟩
  isplitl [Ha Hr]
  · isplitl [Ha]; · iexact Ha
    iexact Hr
  isplitl [Hb]; · iexact Hb
  iexact HO

/-- The launch element: the pipeline's own, and the protocol's. -/
def uLaunch : UU := (initOf (Pipeline.cells cfgs cellOf_inj) (Pipeline.launchToks cfgs cellOf_inj), launchOf barCells scCells allToks)

theorem launch_deals : (ownU uLaunch : sProp 𝕄) ⊢ (|={Set.univ}=> iprop(BI.own ((embL : Emb (UR sig nD τ) 𝕄) (initOf (Pipeline.cells cfgs cellOf_inj) (Pipeline.launchToks cfgs cellOf_inj)))
    ∗ bigSep Finset.univ (park (F := F))) : sProp 𝕄) := by
  rw [park_eq]
  unfold uLaunch
  iintro Hu
  ihave H := (ownU_pair _ _) $$ Hu
  icases H with ⟨HP, HX⟩
  imodintro
  isplitl [HP]; · iexact HP
  iexact HX

/-- What a final memory says of device `c`: its arguments unchanged, its result what the host operations after the kernel make
    of the kernel's result. -/
def Final (c : Dev nD) (s : MemSt nD τ sig (Elt F)) : Prop :=
  (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2)
        ∧ s.mem ((c : Thread nD τ).loc main_arg3) = m ((c : Thread nD τ).loc main_arg3)
        ∧ s.mem ((c : Thread nD τ).loc main_arg4) = m ((c : Thread nD τ).loc main_arg4))
    ∧ s.mem ((c : Thread nD τ).loc main_v43) = V11 m (outs m) c main_v43

theorem init_all :
    iprop((bigSep Finset.univ fun c : Dev nD => iprop(unscopedBufs c (fun b => m ((c.tc : Thread nD τ).loc b)) ∗ unscopedSems0 c
          ∗ owes (c.tc : Thread nD τ) (owe (debts c)) ∅ ∗ Pipeline.launchCred (fun d => owe (debts d)) c ∗ prngReg c (ρ c) ∗ park c)) ∗ levAts L lv)
      ⊢ (|={Set.univ}=> bigSep Finset.univ fun c : Dev nD => iprop(StableHlo.held (c : Thread nD τ) (Pipeline.ucRefs τ sig) (V0 m c) ∗ ride m 0 c) : sProp 𝕄) := by
  have hsplit : (bigSep Finset.univ fun c : Dev nD => iprop(unscopedBufs c (fun b => m ((c.tc : Thread nD τ).loc b)) ∗ unscopedSems0 c
        ∗ owes (c.tc : Thread nD τ) (owe (debts c)) ∅ ∗ Pipeline.launchCred (fun d => owe (debts d)) c ∗ prngReg c (ρ c) ∗ park c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owe (debts c)) ∅
            ∗ Pipeline.launchCred (fun d => owe (debts d)) c ∗ prngReg c (ρ c) ∗ park c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launch_all (wbOf m) ρ) $$ [Hr Hla] with HE
  · isplitl [Hr]; · iexact Hr
    iexact Hla
  imodintro
  rw [bigSep_sep']
  isplitl [Hh]; · iexact Hh
  iexact HE

theorem read_final (c : Dev nD) (s' : Phys nD τ sig (Elt F)) :
    iprop((StableHlo.held (c : Thread nD τ) (Pipeline.ucRefs τ sig) (V11 m (outs m) c) ∗ semVal (barCell c) 0) ∗ SI s')
      ⊢ (|={Set.univ}=> iprop(⌜Final m c s'.mem ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (V11 m (outs m) c) s') $$ [Hh HSI]
  · isplitl [Hh] <;> iassumption
  icases Hr with ⟨%h, HSI⟩
  imodintro
  isplitr
  · ipureintro
    exact ⟨⟨⟨(h (Proc.devRef .tc main_arg0) (Finset.mem_filter.mpr ⟨StableHlo.devRef_mem_tcRefs main_arg0, by decide⟩)).trans (V11_main_arg0 m (outs m) c),
          (h (Proc.devRef .tc main_arg1) (Finset.mem_filter.mpr ⟨StableHlo.devRef_mem_tcRefs main_arg1, by decide⟩)).trans (V11_main_arg1 m (outs m) c),
          (h (Proc.devRef .tc main_arg2) (Finset.mem_filter.mpr ⟨StableHlo.devRef_mem_tcRefs main_arg2, by decide⟩)).trans (V11_main_arg2 m (outs m) c),
          (h (Proc.devRef .tc main_arg3) (Finset.mem_filter.mpr ⟨StableHlo.devRef_mem_tcRefs main_arg3, by decide⟩)).trans (V11_main_arg3 m (outs m) c),
          (h (Proc.devRef .tc main_arg4) (Finset.mem_filter.mpr ⟨StableHlo.devRef_mem_tcRefs main_arg4, by decide⟩)).trans (V11_main_arg4 m (outs m) c)⟩,
      h (Proc.devRef .tc main_v43) (Finset.mem_filter.mpr ⟨StableHlo.devRef_mem_tcRefs main_v43, by decide⟩)⟩, by simpa using hb⟩
  iexact HSI

theorem unscoped_bar : ∀ sm : SemLoc sig, sm.isScoped .tc = false → sm = .reg bar := by decide

set_option backward.isDefEq.respectTransparency.types false in
/-- From any memory with every counter at zero the program ends, whatever the order of its devices' steps, with every argument
    unchanged, every counter at zero, and every device's result the one value named. -/
theorem run_main : θ_run defs (onTc (τ := τ) (main (F := F))) ⟨m, fun _ => 0, ρ⟩ (fun r => (∀ c : Dev nD, Final m c r.2) ∧ r.2.sem = fun _ => 0) :=
  Pipeline.θ_run_regions_kit_dev_sems (pcfgs (F := F)) adm (pdats m) () cellOf_inj embL defs₀ 𝒱₀ L lv m ρ main
    (segs m (outs m) 𝒱₀ L lv (ride m) () (pdats m) (reg0 m))
    (fun c Q => by
      rewrite [main_chain c, Seg.run_eq_chain,
        show (segs m (outs m) 𝒱₀ L lv (ride m) () (pdats m) (reg0 m) c).map Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8,
          Prog.lift (.customCall (Pipeline.entry 0) ()), StableHlo.seq hostOps1] from rfl]
      dsimp (config := { failIfUnchanged := false }) only
      exact .rfl)
    (fun c => by simp only [segs, Seg.pipes_host, Seg.pipes_region, Seg.pipes_nil]; decide)
    (fun d => owe (debts d)) L_of_ne park uLaunch launch_deals
    (T₀ := fun c => iprop(StableHlo.held (c : Thread nD τ) (Pipeline.ucRefs τ sig) (V0 m c) ∗ ride m 0 c))
    (Tₙ := fun c => iprop(StableHlo.held (c : Thread nD τ) (Pipeline.ucRefs τ sig) (V11 m (outs m) c) ∗ semVal (barCell c) 0))
    (hch := fun c => ⟨.rfl, .rfl, .rfl, .rfl, .rfl, .rfl, .rfl, .rfl, .rfl, region_pre m c, region_post m c, by
      show iprop(StableHlo.held (c : Thread nD τ) (Pipeline.ucRefs τ sig) (V11 m (outs m) c)
        ∗ (semVal (barCell c) 0 ∗ ∃ W, owes (c : Thread nD τ) (0 : CellTallies nD τ sig Unit) W)) ⊢ _
      iintro ⟨Hh, Hb, HO⟩
      isplitl [Hh Hb]
      · isplitl [Hh]; · iexact Hh
        iexact Hb
      iexact HO⟩)
    (hinit := init_all m ρ) (QY := fun c s => Final m c s ∧ s.sem (barCell c) = 0)
    (hfin := read_final m)
    (hQ := fun s h hs => ⟨fun c => (h c).1, sem_eq_zero hs fun c sm hsm => by
      obtain rfl := unscoped_bar sm hsm
      exact (h c).2⟩)

end Cert.KernelIdeal.Body

end
-- ==== Proof.Frames.lean ====
module

public import proofs.«01_k».proof.Defs
public import proofs.«01_k».proof.Proof.Gen.Kernel
public import proofs.«01_k».proof.Proof.Main

@[expose] public section

noncomputable section

namespace Cert.Proof

open Idealize.ShloMosaic Idealize.SL.Sem

/-- Read over the machine's own floats a named constant is the float the program prints. -/
abbrev printed : Named Bits := ⟨fun _ _ {φ} b => FloatOps.ofBits φ b⟩

open Cert.KernelIdeal Cert.KernelIdeal.Gen in
/-- Over any floats the program ends, its arguments unchanged and every counter at zero. -/
theorem frame_any {F : FTy → Type} [FloatOps F] [Named F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  MeshRun.mono (fun _ h => ⟨fun c => (h.1 c).1, h.2⟩) (Cert.KernelIdeal.Body.run_main m g)

theorem frame_ideal : @Cert.quiescent_KernelIdeal Cert.KernelIdeal.Gen.facts := fun m g _ => frame_any m g

/-! ## The program at the machine's floats is the same program -/

section Same

local instance : Cert.Kernel.Facts := Cert.Kernel.Gen.facts
local instance : Cert.KernelIdeal.Facts := Cert.KernelIdeal.Gen.facts

set_option maxHeartbeats 4000000
set_option maxRecDepth 100000

theorem kernel_same : @Cert.Kernel.defs₀ Bits _ _ = @Cert.KernelIdeal.defs₀ Bits _ printed _ := by
  unfold Cert.Kernel.defs₀ Cert.KernelIdeal.defs₀
  congr 1
  funext x
  rcases x with ⟨x, h⟩
  match x with
  | 0 =>
    funext y
    obtain ⟨y, hy⟩ := y
    rfl
theorem main_same : @Cert.Kernel.main Bits _ _ = @Cert.KernelIdeal.main Bits _ _ := rfl
theorem defs_same : @Cert.Kernel.defs Bits _ _ = @Cert.KernelIdeal.defs Bits _ printed _ := by
  show Pipeline.defs Cert.Kernel.pcfgs Cert.Kernel.defs₀ = Pipeline.defs Cert.KernelIdeal.pcfgs (@Cert.KernelIdeal.defs₀ Bits _ printed _)
  rw [kernel_same]
  rfl

/-- The program at the machine's floats ends, its arguments unchanged and every counter at zero. -/
theorem frame_kernel : @Cert.quiescent_Kernel Cert.Kernel.Gen.facts := fun m g _ => by
  rw [defs_same, main_same]
  exact @frame_any Bits _ printed m g

end Same

end Cert.Proof

end
-- ==== Proof.Ref.lean ====
/-
  The reference on its one device: it ends, leaves its arguments as they were, and has no counter that could be left off zero.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

namespace Cert.Proof

open Idealize.ShloMosaic Idealize.SL.Sem

/-- The reference ends, its arguments unchanged and every counter at zero. -/
theorem frame_ref : @Cert.quiescent_ReferenceIdeal Cert.ReferenceIdeal.Gen.facts := fun m g _ =>
  MeshRun.mono (fun r h => ⟨fun c => (h c).2, sem_eq_zero_of_no_sems (by decide) r⟩) (Cert.ReferenceIdeal.Value.run (F := Ideal) m g)

end Cert.Proof
-- ==== Proof.ValueMath.lean ====
/-
  The mathematics that the kernel and the reference share, over the extended reals: the quantiser's codes, the scores of one
  head, and the softmax with and without the row's largest score.
-/
module

public import Idealize.ShloMosaic.Lib.Pointwise
public import Idealize.ShloMosaic.PureOps.Ideal.Laws

@[expose] public section

noncomputable section

namespace Cert.Attention

open Idealize.ShloMosaic

/-! ## Constants -/

/-- The quantiser's scale, the bfloat16 nearest 6.3e-4. -/
def scale : ℝ := 165 / 262144

/-- The kernel's query scale: the quantiser's, over the root of the head's width, in base-two exponents. -/
def qscale : ℝ := ((1 / 8) * (165 / 262144)) * (Real.log 2)⁻¹

theorem scale_pos : 0 < scale := by unfold scale; norm_num

theorem scale_bf16 : Ideal.ofBits .bf16 0x3A25#16 = (scale : EReal) := by
  simp [Ideal.ofBits, Ideal.ieee, -EReal.coe_mul, scale]; norm_num

theorem scale_f32 : Ideal.ofBits .f32 0x3A250000#32 = (scale : EReal) := by
  simp [Ideal.ofBits, Ideal.ieee, -EReal.coe_mul, scale]; norm_num

theorem eighth_f32 : Ideal.ofBits .f32 0x3E000000#32 = ((1 / 8 : ℝ) : EReal) := by
  simp [Ideal.ofBits, Ideal.ieee, -EReal.coe_mul]; norm_num

theorem ninf_f32 : Ideal.ofBits .f32 0xFF800000#32 = ⊥ := by
  simp [Ideal.ofBits, Ideal.ieee]

theorem coe_max (a b : ℝ) : ((max a b : ℝ) : EReal) = max (a : EReal) (b : EReal) := EReal.coe_strictMono.monotone.map_max

theorem coe_min (a b : ℝ) : ((min a b : ℝ) : EReal) = min (a : EReal) (b : EReal) := EReal.coe_strictMono.monotone.map_min

/-! ## The quantiser -/

/-- A weight's code: it divided by the scale, rounded half to even, clipped to ±127. -/
def code (w : EReal) : EReal :=
  min ((127 : ℝ) : EReal) (max ((-127 : ℝ) : EReal) (Ideal.liftRound Ideal.roundHalfEven (Ideal.div w (scale : EReal))))

/-- A code is an integer between -127 and 127, whatever the weight. -/
theorem code_int (w : EReal) : ∃ n : ℤ, -127 ≤ n ∧ n ≤ 127 ∧ code w = ((n : ℝ) : EReal) := by
  unfold code
  induction Ideal.div w (scale : EReal) with
  | bot => exact ⟨-127, by norm_num, by norm_num, by rw [Ideal.liftRound_bot, max_bot_right, ← coe_min]; norm_num⟩
  | top => exact ⟨127, by norm_num, by norm_num, by rw [Ideal.liftRound_top, max_top_right, min_top_right]; norm_num⟩
  | coe r =>
    refine ⟨min 127 (max (-127) (Ideal.roundHalfEven r)), by omega, by omega, ?_⟩
    rw [Ideal.liftRound_coe, ← coe_max, ← coe_min]
    push_cast
    rfl

/-- The clip's bounds, converted from the integers that the programs spell, are the code's. -/
theorem clip_at (w : EReal) :
    min (FloatOps.sitofp (F := Ideal) .bf16 127#32 : EReal) (max (FloatOps.sitofp (F := Ideal) .bf16 4294967169#32 : EReal) (Ideal.liftRound Ideal.roundHalfEven (Ideal.div w (Ideal.ofBits .bf16 0x3A25#16))))
      = code w := by
  have hi : (127#32 : BitVec 32).toInt = 127 := by decide
  have lo : (4294967169#32 : BitVec 32).toInt = -127 := by decide
  have h : FloatOps.sitofp (F := Ideal) .bf16 127#32 = ((127 : ℝ) : EReal) := by
    show (((127#32 : BitVec 32).toInt : ℝ) : EReal) = _
    rw [hi]; norm_num
  have l : FloatOps.sitofp (F := Ideal) .bf16 4294967169#32 = ((-127 : ℝ) : EReal) := by
    show (((4294967169#32 : BitVec 32).toInt : ℝ) : EReal) = _
    rw [lo]; norm_num
  rw [scale_bf16, h, l]
  rfl

/-- A code survives the way through 32-bit and 8-bit integers. -/
theorem code_word (w : EReal) : (((BitVec.setWidth 8 (Ideal.fptosi 32 (code w))).toInt : ℝ) : EReal) = code w := by
  obtain ⟨n, h1, h2, h⟩ := code_int w
  have ht : Ideal.toIntClamped (-(2 ^ (32 - 1) : Nat)) ((2 ^ (32 - 1) : Nat) - 1) ((n : ℝ) : EReal) = n := by
    rw [Ideal.toIntClamped_coe, Int.floor_intCast, Int.ceil_intCast, ite_self]
    omega
  rw [h]
  unfold Ideal.fptosi
  rw [ht]
  have : (BitVec.setWidth 8 (BitVec.ofInt 32 n)).toInt = n := by
    rw [BitVec.toInt_setWidth, BitVec.toNat_ofInt]
    rw [Int.bmod_def]
    split <;> omega
  rw [this]

/-! ## Sums -/

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A nonnegative number multiplies a sum term by term, even where terms are infinite. -/
theorem sum_mul {ι : Type} (s : Finset ι) (f : ι → EReal) (c : ℝ) (hc : 0 ≤ c) : (∑ i ∈ s, f i) * (c : EReal) = ∑ i ∈ s, f i * (c : EReal) := by
  induction s using Finset.cons_induction with
  | empty => simp
  | cons a s ha ih =>
    rw [Finset.sum_cons, Finset.sum_cons, EReal.right_distrib_of_nonneg_of_ne_top (by exact_mod_cast hc) (EReal.coe_ne_top c), ih]

/-! ## One head -/

/-- Which keys a query may read: those of its own block of 64, those of the first block, and those whose block and its own add up to a
    multiple of three. -/
def Allowed (i j : Fin 256) : Prop := i.val / 64 = j.val / 64 ∨ j.val / 64 = 0 ∨ (i.val / 64 + j.val / 64) % 3 = 0

instance (i j : Fin 256) : Decidable (Allowed i j) := by unfold Allowed; infer_instance

theorem allowed_self (i : Fin 256) : Allowed i i := .inl rfl

/-- The kernel's score, in base-two exponents. -/
def kScore (x : Fin 512 → EReal) (n : Fin 512 → Fin 64 → EReal) (k : Fin 64 → EReal) : EReal :=
  ∑ d, (∑ e, (x e * (qscale : EReal)) * n e d) * k d

/-- The reference's score. -/
def rScore (x : Fin 512 → EReal) (n : Fin 512 → Fin 64 → EReal) (k : Fin 64 → EReal) : EReal :=
  (∑ d, (∑ e, x e * (n e d * (scale : EReal))) * k d) * ((1 / 8 : ℝ) : EReal)

/-- At finite inputs the reference's score is a number, and the kernel's is the same number over log 2. -/
theorem scores_finite (x : Fin 512 → EReal) (n : Fin 512 → Fin 64 → EReal) (k : Fin 64 → EReal)
    (hx : ∀ e, ∃ r : ℝ, x e = r) (hn : ∀ e d, ∃ r : ℝ, n e d = r) (hk : ∀ d, ∃ r : ℝ, k d = r) :
    ∃ t : ℝ, rScore x n k = (t : EReal) ∧ kScore x n k = ((t * (Real.log 2)⁻¹ : ℝ) : EReal) := by
  choose x' hx using hx
  choose n' hn using hn
  choose k' hk using hk
  refine ⟨(∑ d, (∑ e, x' e * (n' e d * scale)) * k' d) * (1 / 8), ?_, ?_⟩
  · unfold rScore
    simp only [hx, hn, hk, ← EReal.coe_mul, ← coe_sum]
  · unfold kScore
    simp only [hx, hn, hk, ← EReal.coe_mul, ← coe_sum]
    congr 1
    rw [mul_assoc, Finset.sum_mul]
    refine Finset.sum_congr rfl fun d _ => ?_
    rw [Finset.sum_mul, Finset.sum_mul, Finset.sum_mul]
    refine Finset.sum_congr rfl fun e _ => ?_
    unfold qscale scale
    ring

/-- Two to the power of `t / log 2` is `e` to the power of `t`. -/
theorem exp2_log (t : ℝ) : Ideal.exp2 ((t * (Real.log 2)⁻¹ : ℝ) : EReal) = ((Real.exp t : ℝ) : EReal) := by
  rw [Ideal.exp2_coe]
  congr 1
  show (2 : ℝ) ^ (t * (Real.log 2)⁻¹) = _
  rw [Real.rpow_def_of_pos (by norm_num)]
  congr 1
  have : Real.log 2 ≠ 0 := (Real.log_pos (by norm_num)).ne'
  field_simp

/-- The greatest of finitely many numbers and -∞'s, one of them a number, is a number. -/
theorem fold_max_real {ι : Type} (s : Finset ι) (M : ι → Prop) [DecidablePred M] (t : ι → ℝ) (h : ∃ i ∈ s, M i) :
    ∃ μ : ℝ, Finset.fold max ⊥ (fun i => if M i then (t i : EReal) else ⊥) s = (μ : EReal) := by
  have key : ∀ s : Finset ι, Finset.fold max ⊥ (fun i => if M i then (t i : EReal) else ⊥) s = ⊥ ∧ (∀ i ∈ s, ¬ M i)
      ∨ ∃ μ : ℝ, Finset.fold max ⊥ (fun i => if M i then (t i : EReal) else ⊥) s = (μ : EReal) := by
    intro s
    induction s using Finset.cons_induction with
    | empty => exact .inl ⟨by simp, by simp⟩
    | cons a s ha ih =>
      rw [Finset.fold_cons]
      by_cases hM : M a
      · rw [if_pos hM]
        rcases ih with ⟨e, _⟩ | ⟨μ, e⟩
        · exact .inr ⟨t a, by rw [e, max_bot_right]⟩
        · exact .inr ⟨max (t a) μ, by rw [e, ← coe_max]⟩
      · rw [if_neg hM, max_bot_left]
        rcases ih with ⟨e, h⟩ | ⟨μ, e⟩
        · refine .inl ⟨e, fun i hi => ?_⟩
          rcases Finset.mem_cons.mp hi with rfl | hi
          · exact hM
          · exact h i hi
        · exact .inr ⟨μ, e⟩
  rcases key s with ⟨_, h'⟩ | h'
  · obtain ⟨i, hi, hM⟩ := h
    exact absurd hM (h' i hi)
  · exact h'

/-- The reference's softmax, the row's largest score subtracted first, times the values. -/
def rHead (M : Fin 256 → Prop) [DecidablePred M] (s : Fin 256 → EReal) (v : Fin 256 → EReal) : EReal :=
  let s' : Fin 256 → EReal := fun j => if M j then s j else ⊥
  let w : Fin 256 → EReal := fun j => Ideal.exp (s' j - Finset.fold max ⊥ s' Finset.univ)
  ∑ j, v j * Ideal.div (w j) (∑ j, w j)

/-- The kernel's head: powers of two, the scaled values, and the division last. -/
def kHead (M : Fin 256 → Prop) [DecidablePred M] (s : Fin 256 → EReal) (v : Fin 256 → EReal) : EReal :=
  let w : Fin 256 → EReal := fun j => if M j then Ideal.exp2 (s j) else 0
  (∑ j, w j * (v j * (scale : EReal))) * Ideal.div 1 (∑ j, w j)

/-- The kernel's head is the reference's times the quantiser's scale. -/
theorem head_eq (M : Fin 256 → Prop) [DecidablePred M] (hM : ∃ j, M j) (s s' : Fin 256 → EReal) (v : Fin 256 → EReal) (t : Fin 256 → ℝ)
    (hs : ∀ j, s j = ((t j * (Real.log 2)⁻¹ : ℝ) : EReal)) (hs' : ∀ j, s' j = (t j : EReal)) :
    kHead M s v = rHead M s' v * (scale : EReal) := by
  obtain ⟨μ, hμ⟩ := fold_max_real Finset.univ M t (by simpa using hM)
  set a : Fin 256 → ℝ := fun j => if M j then Real.exp (t j) else 0 with ha
  have ha0 : ∀ j, 0 ≤ a j := fun j => by
    simp only [ha]; split
    · exact (Real.exp_pos _).le
    · exact le_rfl
  have hA : 0 < ∑ j, a j := by
    obtain ⟨j, hj⟩ := hM
    refine Finset.sum_pos' (fun j _ => ha0 j) ⟨j, Finset.mem_univ j, ?_⟩
    simp only [ha, if_pos hj]
    exact Real.exp_pos _
  have hk : ∀ j, (if M j then Ideal.exp2 (s j) else 0) = (a j : EReal) := fun j => by
    simp only [ha]; split
    · rw [hs, exp2_log]
    · rfl
  have hr : ∀ j, Ideal.exp ((if M j then s' j else ⊥) - (μ : EReal)) = ((a j * Real.exp (-μ) : ℝ) : EReal) := fun j => by
    simp only [ha]; split
    · rw [hs', ← EReal.coe_sub, Ideal.exp_coe, sub_eq_add_neg, Real.exp_add]
    · rw [EReal.bot_sub, Ideal.exp_bot, zero_mul]; rfl
  have hm : Finset.fold max ⊥ (fun j => if M j then s' j else ⊥) Finset.univ = (μ : EReal) := by
    simp only [hs']; exact hμ
  unfold kHead rHead
  simp only [hm, hk, hr]
  rw [← coe_sum, ← coe_sum, ← Finset.sum_mul, Ideal.div_coe hA.ne', one_mul,
    sum_mul _ _ _ (one_div_pos.mpr hA).le, sum_mul _ _ _ scale_pos.le]
  refine Finset.sum_congr rfl fun j _ => ?_
  rw [Ideal.div_coe (mul_pos hA (Real.exp_pos _)).ne', ← EReal.coe_mul]
  have e : a j * Real.exp (-μ) * (1 / ((∑ j, a j) * Real.exp (-μ))) = a j * (1 / ∑ j, a j) := by
    have := (Real.exp_pos (-μ)).ne'
    have := hA.ne'
    field_simp
  rw [e, EReal.coe_mul]
  ac_rfl

end Cert.Attention

end
-- ==== Proof.ValueKernel.lean ====
module

public import proofs.«01_k».proof.Proof.Launch
public import proofs.«01_k».proof.Proof.ValueMath
public import Idealize.ShloMosaic.Lib.Pointwise
public import Idealize.ShloMosaic.PureOps.Ideal.Laws

@[expose] public section

set_option maxRecDepth 16384

noncomputable section

namespace Cert.KernelIdeal.Body

open Idealize.ShloMosaic Idealize.ShloMosaic.TcCoe
open View
open Cert.KernelIdeal Cert.KernelIdeal.Gen

/-- The kernel's rounded-down division by 64, at a position. -/
theorem block_at (i : Fin 256) :
    Scalar.select
      (IntOp.andi
        (IntOp.cmpi CmpIPredicate.ne
          (IntOp.subi (BitVec.setWidth 32 (IntOp.cmpi CmpIPredicate.sgt (BitVec.ofNat 32 ↑i) 0#32))
            (BitVec.setWidth 32 (IntOp.cmpi CmpIPredicate.slt (BitVec.ofNat 32 ↑i) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 ↑i) 64#32) 0#32))
      (IntOp.subi (IntOp.divsi ArithUnit.vector (BitVec.ofNat 32 ↑i) 64#32) 1#32)
      (IntOp.divsi ArithUnit.vector (BitVec.ofNat 32 ↑i) 64#32) = BitVec.ofNat 32 (i.val / 64) := by
  revert i
  decide +kernel

/-- The kernel's mask is 1 where a query may read a key. -/
theorem mask_at (i j : Fin 256) : mask (ix2 i j) = 1#1 ↔ Attention.Allowed i j := by
  pointwise [mask, k0_pay1, k0_pay2, k0_pay3, k0_pay4, k0_pay5]
  simp only [block_at]
  unfold Attention.Allowed
  obtain ⟨a, ha⟩ : ∃ a : Fin 4, i.val / 64 = a.val := ⟨⟨i.val / 64, by omega⟩, rfl⟩
  obtain ⟨b, hb⟩ : ∃ b : Fin 4, j.val / 64 = b.val := ⟨⟨j.val / 64, by omega⟩, rfl⟩
  rw [ha, hb]
  clear ha hb
  revert a b
  decide +kernel

/-! ## One block, at an index -/

/-- A code of a block, as a number. -/
def num (wb : IVec S512x512 8) (i : Fin 512) (e : Fin 512) : EReal := (((wb (ix2 i e)).toInt : ℝ) : EReal)

/-- A block's queries, read at a row and a column. -/
theorem queries_at (wb : IVec S512x512 8) (x : Vec Ideal S512x512 .bf16) (r : Fin 512) (u : Fin 256) :
    queries wb x (ix2 r u)
      = ∑ e, x (ix2 r e) * (Attention.qscale : EReal) * num wb ⟨u.val, by omega⟩ e := by
  pointwise [queries]
  rw [IdealRules.named_const.ideal_named_scalar _ _ _ _ rfl]
  rfl

/-- One head at a query and a column. -/
theorem attend_at (q : Vec Ideal S256x64 .bf16) (k3 v3 : Vec Ideal S1x256x64 .bf16) (i : Fin 256) (d : Fin 64)
    (v : Fin 256 → EReal) (hv : ∀ j, v3 (ix3 0 j d) = v j * (Attention.scale : EReal)) :
    attend (F := Ideal) mask q k3 v3 (ix2 i d)
      = Attention.kHead (Attention.Allowed i) (fun j => ∑ u, q (ix2 i u) * k3 (ix3 0 j u)) v := by
  have hw : ∀ j : Fin 256, weights (F := Ideal) mask q k3 (ix2 i j) = if Attention.Allowed i j then Ideal.exp2 (∑ u, q (ix2 i u) * k3 (ix3 0 j u)) else 0 := fun j => by
    pointwise [weights]
    exact if_congr (mask_at i j) rfl rfl
  pointwise [attend]
  simp only [hw, hv]
  rfl

/-- The result's new value at a row and a column. -/
theorem accumulate_at (wb : IVec S512x512 8) (out : Vec Ideal S512x512 .f32) (ctx : Vec Ideal S512x256 .bf16) (r n : Fin 512) :
    accumulate wb out ctx (ix2 r n)
      = out (ix2 r n) + ∑ u : Fin 256, ctx (ix2 r u) * num wb ⟨256 + u.val, by omega⟩ n := by
  pointwise [accumulate]
  rfl

/-- One head's output, from the block's queries, keys and values. -/
theorem headOut_at (q : Vec Ideal S512x256 .bf16) (kc vc : Vec Ideal S8x256x64 .bf16) (b : Fin 2) (h : Fin 4)
    (so : S512x256.Slices ![256 * b.val, 64 * h.val] S256x64) (si : S8x256x64.Slices ![4 * b.val + h.val, 0, 0] S1x256x64) (i : Fin 256) (d : Fin 64)
    (v : Fin 256 → EReal) (hv : ∀ j, vc (ix3 ⟨4 * b.val + h.val, by omega⟩ j d) = v j * (Attention.scale : EReal)) :
    headOut (F := Ideal) q kc vc ![256 * b.val, 64 * h.val] so ![4 * b.val + h.val, 0, 0] si (ix2 i d)
      = Attention.kHead (Attention.Allowed i)
          (fun j => ∑ u : Fin 64, q (ix2 ⟨256 * b.val + i.val, by omega⟩ ⟨64 * h.val + u.val, by omega⟩) * kc (ix3 ⟨4 * b.val + h.val, by omega⟩ j u)) v := by
  unfold headOut
  rw [attend_at _ _ _ i d v (fun j => by rw [← hv j]; pointwise)]
  pointwise

/-- All heads of a block: the output at a row (batch and query) and a column (head and place in it). -/
def ctxAt (q : Fin 512 → Fin 256 → EReal) (kc v : Fin 8 → Fin 256 → Fin 64 → EReal) (r : Fin 512) (u : Fin 256) : EReal :=
  Attention.kHead (Attention.Allowed ⟨r.val % 256, by omega⟩)
    (fun j => ∑ d : Fin 64, q r ⟨64 * (u.val / 64) + d.val, by omega⟩ * kc ⟨4 * (r.val / 256) + u.val / 64, by omega⟩ j d)
    (fun j => v ⟨4 * (r.val / 256) + u.val / 64, by omega⟩ j ⟨u.val % 64, by omega⟩)

/-- The same, with the batch, query, head and place given. -/
theorem ctxAt_at (q : Fin 512 → Fin 256 → EReal) (kc v : Fin 8 → Fin 256 → Fin 64 → EReal) (r : Fin 512) (u : Fin 256)
    (b : Fin 2) (h : Fin 4) (i : Fin 256) (d : Fin 64) (hr : r.val = 256 * b.val + i.val) (hu : u.val = 64 * h.val + d.val) :
    ctxAt q kc v r u = Attention.kHead (Attention.Allowed i)
      (fun j => ∑ d : Fin 64, q ⟨256 * b.val + i.val, by clear hr hu; omega⟩ ⟨64 * h.val + d.val, by clear hr hu; omega⟩ * kc ⟨4 * b.val + h.val, by clear hr hu; omega⟩ j d)
      (fun j => v ⟨4 * b.val + h.val, by clear hr hu; omega⟩ j d) := by
  rw [show r = ⟨256 * b.val + i.val, by omega⟩ from Fin.ext hr, show u = ⟨64 * h.val + d.val, by omega⟩ from Fin.ext hu]
  unfold ctxAt
  have hi : (⟨(256 * b.val + i.val) % 256, by omega⟩ : Fin 256) = i := Fin.ext (by show _ % 256 = _; omega)
  have hd : (⟨(64 * h.val + d.val) % 64, by omega⟩ : Fin 64) = d := Fin.ext (by show _ % 64 = _; omega)
  have e1 : (256 * b.val + i.val) / 256 = b.val := by omega
  have e2 : (64 * h.val + d.val) / 64 = h.val := by omega
  simp only [hi, hd, e1, e2]

/-- The heads' buffer, read at a row and a column. -/
theorem ctxOf_at (q : Vec Ideal S512x256 .bf16) (kc vc : Vec Ideal S8x256x64 .bf16) (v : Fin 8 → Fin 256 → Fin 64 → EReal)
    (hv : ∀ g j d, vc (ix3 g j d) = v g j d * (Attention.scale : EReal)) (r : Fin 512) (u : Fin 256) :
    ctxOf (F := Ideal) q kc vc (ix2 r u) = ctxAt (fun r u => q (ix2 r u)) (fun g j d => kc (ix3 g j d)) v r u := by
  have piece : ∀ (b : Fin 2) (h : Fin 4) (so : S512x256.Slices ![256 * b.val, 64 * h.val] S256x64)
      (si : S8x256x64.Slices ![4 * b.val + h.val, 0, 0] S1x256x64) (inb : ∀ a, (![256 * b.val, 64 * h.val] : Fin 2 → Nat) a + S256x64.size a ≤ S512x256.size a)
      (x : S256x64.Idx), headOut (F := Ideal) q kc vc ![256 * b.val, 64 * h.val] so ![4 * b.val + h.val, 0, 0] si x
        = (fun y : S512x256.Idx => ctxAt (fun r u => q (ix2 r u)) (fun g j d => kc (ix3 g j d)) v (y 0) (y 1))
            ((Rect.unit (s := S512x256) ![256 * b.val, 64 * h.val] S256x64.size inb).emb x) := by
    intro b h so si inb x
    have h0 : (x 0).val < 256 := (x 0).isLt
    have h1 : (x 1).val < 64 := (x 1).isLt
    refine Eq.trans ?_ (congrArg₂ (ctxAt (fun r u => q (ix2 r u)) (fun g j d => kc (ix3 g j d)) v)
      (x := ⟨256 * b.val + (x 0).val, by omega⟩) (y := ⟨64 * h.val + (x 1).val, by omega⟩)
      (Fin.ext (by show 256 * b.val + (x 0).val = 256 * b.val + 1 * (x 0).val; omega)) (Fin.ext (by show 64 * h.val + (x 1).val = 64 * h.val + 1 * (x 1).val; omega)))
    refine Eq.trans ?_ (ctxAt_at _ _ _ _ _ b h ⟨(x 0).val, h0⟩ ⟨(x 1).val, h1⟩ rfl rfl).symm
    have hx : x = ix2 ⟨(x 0).val, h0⟩ ⟨(x 1).val, h1⟩ := by
      funext a
      match a with
      | 0 => rfl
      | 1 => rfl
    conv_lhs => rw [hx]
    exact headOut_at q kc vc b h so si _ _ (fun j => v ⟨4 * b.val + h.val, by omega⟩ j _) (fun j => hv _ j _)
  refine canon_apply_of_pieces (fun y : S512x256.Idx => ctxAt (fun r u => q (ix2 r u)) (fun g j d => kc (ix3 g j d)) v (y 0) (y 1)) _ ?_ _
    (pieces_cover (F := Ideal) q kc vc _)
  unfold pieces
  simp only [List.forall_mem_cons]
  exact ⟨piece 1 3 _ _ _, piece 1 2 _ _ _, piece 1 1 _ _ _, piece 1 0 _ _ _, piece 0 3 _ _ _, piece 0 2 _ _ _, piece 0 1 _ _ _, piece 0 0 _ _ _, by simp⟩

/-! ## All eight blocks -/

/-- What one block adds to the result at a row and a column. -/
def blockAt (x : Fin 512 → Fin 512 → EReal) (wb : IVec S512x512 8) (k v : Fin 8 → Fin 256 → Fin 64 → EReal) (r n : Fin 512) : EReal :=
  ∑ u : Fin 256, ctxAt (fun r u => ∑ e, x r e * (Attention.qscale : EReal) * num wb ⟨u.val, by omega⟩ e) k v r u * num wb ⟨256 + u.val, by omega⟩ n

theorem step_at (x : Vec Ideal S512x512 .bf16) (k v : Vec Ideal S1x8x256x64 .bf16) (wb : IVec S512x512 8) (out : Vec Ideal S512x512 .f32)
    (v' : Fin 8 → Fin 256 → Fin 64 → EReal) (hv : ∀ g j d, v (ix4 0 g j d) = v' g j d * (Attention.scale : EReal)) (r n : Fin 512) :
    step (F := Ideal) x k v wb out (ix2 r n)
      = out (ix2 r n) + blockAt (fun r e => x (ix2 r e)) wb (fun g j d => k (ix4 0 g j d)) v' r n := by
  have hk : ∀ (g : Fin 8) (j : Fin 256) (d : Fin 64), (shapeCast S8x256x64 k shapeCasts_S1x8x256x64_S8x256x64 : Vec Ideal S8x256x64 .bf16) (ix3 g j d) = k (ix4 0 g j d) :=
    fun g j d => by pointwise
  have hc : ∀ u : Fin 256, ctxOf (F := Ideal) (queries wb x) (shapeCast S8x256x64 k shapeCasts_S1x8x256x64_S8x256x64)
      (shapeCast S8x256x64 v shapeCasts_S1x8x256x64_S8x256x64) (ix2 r u)
        = ctxAt (fun r u => ∑ e, x (ix2 r e) * (Attention.qscale : EReal) * num wb ⟨u.val, by omega⟩ e) (fun g j d => k (ix4 0 g j d)) v' r u := fun u => by
    rw [ctxOf_at _ _ _ v' (fun g j d => by rw [← hv]; pointwise)]
    exact congrArg₂ (fun q k => ctxAt q k v' r u) (funext fun r => funext fun u => queries_at wb x r u) (funext fun g => funext fun j => funext fun d => hk g j d)
  unfold step
  rw [accumulate_at]
  exact congrArg (fun s => out (ix2 r n) + s) (Finset.sum_congr rfl fun u _ => congrArg (fun z => z * num wb ⟨256 + u.val, by omega⟩ n) (hc u))

/-- The devices whose blocks a device takes in turn are all eight, each once. -/
theorem org_bijective (c : Dev nD) : Function.Bijective (org c) := by
  refine (Finite.injective_iff_bijective).mp ?_
  revert c
  unfold Function.Injective
  decide +kernel

/-- The result on a device: the sum of the eight devices' blocks. -/
theorem acc_at (wb : Dev nD → IVec S512x512 8) (x : Vec Ideal S512x512 .bf16) (kk vv : Vec Ideal S8x8x256x64 .bf16) (c : Dev nD)
    (v' : Fin 8 → Fin 8 → Fin 256 → Fin 64 → EReal) (hv : ∀ o g j d, vv (ix4 o g j d) = v' o g j d * (Attention.scale : EReal)) (r n : Fin 512) :
    acc (F := Ideal) wb x kk vv c 8 (ix2 r n)
      = ∑ o : Fin 8, blockAt (fun r e => x (ix2 r e)) (wb o) (fun g j d => kk (ix4 o g j d)) (v' o) r n := by
  have hstep : ∀ (j : Fin 8) (out : Vec Ideal S512x512 .f32), stepAt (F := Ideal) wb x kk vv c j out (ix2 r n)
      = out (ix2 r n) + blockAt (fun r e => x (ix2 r e)) (wb (org c j)) (fun g j' d => kk (ix4 (org c j) g j' d)) (v' (org c j)) r n := fun j out => by
    have hl : ∀ (w : Vec Ideal S8x8x256x64 .bf16) (g : Fin 8) (j' : Fin 256) (d : Fin 64),
        View.ld (Val := Elt Ideal) w (Rect.unit (s := S8x8x256x64) ![(org c j).val, 0, 0, 0] S1x8x256x64.size (org_inb c j)) (ix4 0 g j' d) = w (ix4 (org c j) g j' d) :=
      fun w g j' d => congrArg w (funext fun a => Fin.ext (by
        match a with
        | 0 => rfl
        | 1 => show 0 + 1 * g.val = g.val; omega
        | 2 => show 0 + 1 * j'.val = j'.val; omega
        | 3 => show 0 + 1 * d.val = d.val; omega))
    unfold stepAt
    rw [step_at _ _ _ _ _ (v' (org c j)) (fun g j' d => by rw [← hv]; exact hl vv g j' d)]
    exact congrArg (fun k => out (ix2 r n) + blockAt (fun r e => x (ix2 r e)) (wb (org c j)) k (v' (org c j)) r n)
      (funext fun g => funext fun j' => funext fun d => hl kk g j' d)
  have h0 : acc (F := Ideal) wb x kk vv c 0 (ix2 r n) = 0 := by
    show k0_pay6 (F := Ideal) (ix2 r n) = 0
    pointwise [k0_pay6]
  have hs : ∀ k : ℕ, acc (F := Ideal) wb x kk vv c (k + 1) = stepAt wb x kk vv c (Fin.ofNat 8 k) (acc wb x kk vv c k) := fun _ => rfl
  rw [← (org_bijective c).sum_comp (fun o => blockAt (fun r e => x (ix2 r e)) (wb o) (fun g j d => kk (ix4 o g j d)) (v' o) r n),
    Fin.sum_univ_eight]
  rw [hs 7, hstep, hs 6, hstep, hs 5, hstep, hs 4, hstep, hs 3, hstep, hs 2, hstep, hs 1, hstep, hs 0, hstep, h0, zero_add]
  rfl

end Cert.KernelIdeal.Body
end
-- ==== Proof.ValueHost.lean ====
/-
  What the host operations before and after the kernel leave, read at an index of the arguments.
-/
module

public import proofs.«01_k».proof.Proof.Main
public import proofs.«01_k».proof.Proof.ValueMath
public import Idealize.ShloMosaic.Lib.StableHlo.ReadAt
public import Idealize.ShloMosaic.Lib.StableHlo.RunClose
public import Idealize.ShloMosaic.Lib.Pointwise
public import Idealize.ShloMosaic.PureOps.Ideal.Laws

@[expose] public section

set_option maxRecDepth 16384

noncomputable section

namespace Cert.KernelIdeal.Body

open Idealize.ShloMosaic Idealize.ShloMosaic.TcCoe
open Cert.KernelIdeal Cert.KernelIdeal.Gen

variable (m : (ℓ : Loc nD τ sig) → Buf (Elt Ideal) ℓ)

/-- The arguments on a device. -/
abbrev argX (c : Dev nD) : Vec Ideal S2x256x512 .bf16 := m ((c : Thread nD τ).loc main_arg0)
abbrev argQ (c : Dev nD) : Vec Ideal S512x256 .bf16 := m ((c : Thread nD τ).loc main_arg1)
abbrev argK (c : Dev nD) : Vec Ideal S16x256x32x64 .bf16 := m ((c : Thread nD τ).loc main_arg2)
abbrev argV (c : Dev nD) : Vec Ideal S16x256x32x64 .bf16 := m ((c : Thread nD τ).loc main_arg3)
abbrev argO (c : Dev nD) : Vec Ideal S256x512 .bf16 := m ((c : Thread nD τ).loc main_arg4)

theorem x_at (c : Dev nD) (r e : Fin 512) : xOf m c (ix2 r e) = argX m c (ix3 ⟨r.val / 256, by omega⟩ ⟨r.val % 256, by omega⟩ e) := by
  have h : V8 m c main_arg0 = argX m c := by
    rw [V8_of _ _ _ (by decide), V7_of _ _ _ (by decide), V6_of _ _ _ (by decide), V5_of _ _ _ (by decide), V4_of _ _ _ (by decide), V3_of _ _ _ (by decide), V2_of _ _ _ (by decide), V1_of _ _ _ (by decide)]
  unfold xOf V9
  generalize V8 m c = W at h
  unfold hostOps0_8
  after_reads_at
  exact congrFun h _

/-- Where a device's batches begin, as the host computes it. -/
def firstBatch (c : Dev nD) : IVec S_ 32 :=
  select (cmpi .slt (muli (id (Host.remui (Host.divui (constantI S_ 32 (Dev.word c)) (constantI S_ 32 1#32)) (constantI S_ 32 8#32))) (constantI S_ 32 2#32)) (constantI S_ 32 0#32))
    (addi (muli (id (Host.remui (Host.divui (constantI S_ 32 (Dev.word c)) (constantI S_ 32 1#32)) (constantI S_ 32 8#32))) (constantI S_ 32 2#32)) (constantI S_ 32 16#32))
    (muli (id (Host.remui (Host.divui (constantI S_ 32 (Dev.word c)) (constantI S_ 32 1#32)) (constantI S_ 32 8#32))) (constantI S_ 32 2#32))

theorem firstBatch_toInt (c : Dev nD) : (firstBatch c (Shape.Idx.first h_S_)).toInt = 2 * (c.val : Int) := by
  revert c
  decide +kernel

/-- The keys or values of a device's batches, the heads grouped by device. -/
def arrange (c : Dev nD) (k : Vec Ideal S16x256x32x64 .bf16) : Vec Ideal S8x8x256x64 .bf16 :=
  shapeCast S8x8x256x64 (transpose S8x2x4x256x64 [1, 0, 2, 3, 4] (shapeCast S2x8x4x256x64 (transpose S2x32x256x64 [0, 2, 1, 3]
    (Host.dynamicSlice S2x256x32x64 k (fun a => ((![firstBatch c, constantI S_ 32 0#32, constantI S_ 32 0#32, constantI S_ 32 0#32] : Fin 4 → IVec S_ 32) a (Shape.Idx.first h_S_)).toInt) sliceFits_S16x256x32x64_S2x256x32x64)
      transposes_S2x256x32x64_S2x32x256x64_0_2_1_3) shapeCasts_S2x32x256x64_S2x8x4x256x64) transposes_S2x8x4x256x64_S8x2x4x256x64_1_0_2_3_4) shapeCasts_S8x2x4x256x64_S8x8x256x64

theorem keys_eq (c : Dev nD) : V1 m c main_v18 = arrange c (argK m c) := by
  unfold V1 hostOps0
  after_results_entrywise []

theorem values_eq (c : Dev nD) : V1 m c main_v22 = arrange c (argV m c) := by
  unfold V1 hostOps0
  after_results_entrywise []

theorem arrange_at (c : Dev nD) (k : Vec Ideal S16x256x32x64 .bf16) (o g : Fin 8) (j : Fin 256) (d : Fin 64) :
    arrange c k (ix4 o g j d) = k (ix4 ⟨2 * c.val + g.val / 4, by have : c.val < 8 := c.isLt; omega⟩ j ⟨4 * o.val + g.val % 4, by omega⟩ d) := by
  have hc : c.val < 8 := c.isLt
  have hs : (fun a => ((![firstBatch c, constantI S_ 32 0#32, constantI S_ 32 0#32, constantI S_ 32 0#32] : Fin 4 → IVec S_ 32) a (Shape.Idx.first h_S_)).toInt)
      = (![2 * (c.val : Int), 0, 0, 0] : Fin 4 → Int) := by
    funext a
    match a with
    | 0 => exact firstBatch_toInt c
    | 1 => rfl
    | 2 => rfl
    | 3 => rfl
  unfold arrange
  rw [hs]
  pointwise
  have h0 : Host.clampedStart S16x256x32x64 S2x256x32x64 rfl (![2 * (c.val : Int), 0, 0, 0] : Fin 4 → Int) 0 = 2 * c.val :=
    Host.clampedStart_of_le _ _ _ _ (by show 2 * (c.val : Int) = _; push_cast; rfl) (by show 2 * c.val + 2 ≤ 16; omega)
  have h1 : Host.clampedStart S16x256x32x64 S2x256x32x64 rfl (![2 * (c.val : Int), 0, 0, 0] : Fin 4 → Int) 1 = 0 :=
    Host.clampedStart_of_le _ _ _ _ rfl (by decide)
  have h2 : Host.clampedStart S16x256x32x64 S2x256x32x64 rfl (![2 * (c.val : Int), 0, 0, 0] : Fin 4 → Int) 2 = 0 :=
    Host.clampedStart_of_le _ _ _ _ rfl (by decide)
  have h3 : Host.clampedStart S16x256x32x64 S2x256x32x64 rfl (![2 * (c.val : Int), 0, 0, 0] : Fin 4 → Int) 3 = 0 :=
    Host.clampedStart_of_le _ _ _ _ rfl (by decide)
  simp only [h0, h1, h2, h3, zero_add, Nat.mul_comm o.val 4]

/-! ## The codes -/

theorem quotQ_at (c : Dev nD) (e : Fin 512) (n : Fin 256) : V1 m c main_v24 (ix2 e n) = Ideal.div (argQ m c (ix2 e n)) (Ideal.ofBits .bf16 0x3A25#16) := by
  unfold V1 hostOps0
  after_reads_at

theorem codeQ_at (c : Dev nD) (e : Fin 512) (n : Fin 256) : V4 m c main_v26 (ix2 e n) = Attention.code (argQ m c (ix2 e n)) := by
  have lo : V3 m c main_c_13 = constantI S_ 32 4294967169#32 := by
    unfold V3 hostOps0_2
    after_results_entrywise []
  have hi : V3 m c main_c_14 = constantI S_ 32 127#32 := by
    unfold V3 hostOps0_2
    after_results_entrywise []
  have hr : V3 m c main_v25 (ix2 e n) = Ideal.liftRound Ideal.roundHalfEven (Ideal.div (argQ m c (ix2 e n)) (Ideal.ofBits .bf16 0x3A25#16)) := by
    rw [← quotQ_at, V3_of _ _ _ (by decide)]
    unfold V2 hostOps0_1
    generalize V1 m c = W
    after_reads_at
  rw [← Attention.clip_at, ← hr]
  unfold V4
  generalize V3 m c = W at lo hi hr
  unfold hostOps0_3
  after_reads_at
  rw [lo, hi]
  rfl

theorem codeO_at (c : Dev nD) (e : Fin 256) (n : Fin 512) : V8 m c main_v34 (ix2 e n) = Attention.code (argO m c (ix2 e n)) := by
  have lo : V7 m c main_c_16 = constantI S_ 32 4294967169#32 := by
    unfold V7 hostOps0_6
    after_results_entrywise []
  have hi : V7 m c main_c_17 = constantI S_ 32 127#32 := by
    unfold V7 hostOps0_6
    after_results_entrywise []
  have ha : V4 m c main_arg4 = argO m c := by
    rw [V4_of _ _ _ (by decide), V3_of _ _ _ (by decide), V2_of _ _ _ (by decide), V1_of _ _ _ (by decide)]
  have hd : V5 m c main_v32 (ix2 e n) = Ideal.div (argO m c (ix2 e n)) (Ideal.ofBits .bf16 0x3A25#16) := by
    unfold V5
    generalize V4 m c = W at ha
    unfold hostOps0_4
    after_reads_at
    rw [ha]
  have hr : V7 m c main_v33 (ix2 e n) = Ideal.liftRound Ideal.roundHalfEven (Ideal.div (argO m c (ix2 e n)) (Ideal.ofBits .bf16 0x3A25#16)) := by
    rw [← hd, V7_of _ _ _ (by decide)]
    unfold V6 hostOps0_5
    generalize V5 m c = W
    after_reads_at
  rw [← Attention.clip_at, ← hr]
  unfold V8
  generalize V7 m c = W at lo hi hr
  unfold hostOps0_7
  after_reads_at
  rw [lo, hi]
  rfl

/-- The kernel's weight block, as numbers: the query codes transposed, then the output codes. -/
theorem w_at (c : Dev nD) (i e : Fin 512) :
    ((((wbOf m c : IVec S512x512 8) (ix2 i e)).toInt : ℝ) : EReal)
      = if h : i.val < 256 then Attention.code (argQ m c (ix2 e ⟨i.val, h⟩)) else Attention.code (argO m c (ix2 ⟨i.val - 256, by omega⟩ e)) := by
  have hq : ∀ n : Fin 256, V8 m c main_v30 (ix2 n e) = BitVec.setWidth 8 (Ideal.fptosi 32 (Attention.code (argQ m c (ix2 e n)))) := fun n => by
    rw [← codeQ_at, V8_of _ _ _ (by decide), V7_of _ _ _ (by decide), V6_of _ _ _ (by decide)]
    unfold V5
    generalize V4 m c = W
    unfold hostOps0_4
    after_reads_at
    rfl
  have ho : ∀ n : Fin 256, V8 m c main_v34 (ix2 n e) = Attention.code (argO m c (ix2 n e)) := fun n => codeO_at m c n e
  have hw : (wbOf m c : IVec S512x512 8) (ix2 i e) = if h : i.val < 256 then BitVec.setWidth 8 (Ideal.fptosi 32 (Attention.code (argQ m c (ix2 e ⟨i.val, h⟩))))
      else BitVec.setWidth 8 (Ideal.fptosi 32 (Attention.code (argO m c (ix2 ⟨i.val - 256, by omega⟩ e)))) := by
    simp only [← hq, ← ho]
    unfold wbOf V9
    generalize V8 m c = W
    unfold hostOps0_8
    after_reads_at
    rfl
  rw [hw]
  split
  · exact Attention.code_word _
  · exact Attention.code_word _

/-- The kernel's keys. -/
theorem k_at (c : Dev nD) (o g : Fin 8) (j : Fin 256) (d : Fin 64) :
    kOf m c (ix4 o g j d) = argK m c (ix4 ⟨2 * c.val + g.val / 4, by have : c.val < 8 := c.isLt; omega⟩ j ⟨4 * o.val + g.val % 4, by omega⟩ d) := by
  rw [← arrange_at c (argK m c), ← keys_eq]
  unfold kOf
  rw [V9_of _ _ _ (by decide), V8_of _ _ _ (by decide), V7_of _ _ _ (by decide), V6_of _ _ _ (by decide), V5_of _ _ _ (by decide), V4_of _ _ _ (by decide), V3_of _ _ _ (by decide), V2_of _ _ _ (by decide)]

/-- The kernel's values, scaled. -/
theorem v_at (c : Dev nD) (o g : Fin 8) (j : Fin 256) (d : Fin 64) :
    vOf m c (ix4 o g j d)
      = argV m c (ix4 ⟨2 * c.val + g.val / 4, by have : c.val < 8 := c.isLt; omega⟩ j ⟨4 * o.val + g.val % 4, by omega⟩ d) * (Attention.scale : EReal) := by
  have h : V8 m c main_v22 = arrange c (argV m c) := by
    rw [V8_of _ _ _ (by decide), V7_of _ _ _ (by decide), V6_of _ _ _ (by decide), V5_of _ _ _ (by decide), V4_of _ _ _ (by decide), V3_of _ _ _ (by decide), V2_of _ _ _ (by decide), values_eq]
  rw [← arrange_at c (argV m c), ← h, ← Attention.scale_bf16]
  unfold vOf V9
  generalize V8 m c = W
  unfold hostOps0_8
  after_reads_at

/-- The program's result is the kernel's, its rows split into batches and queries. -/
theorem out_at (c : Dev nD) (b : Fin 2) (i : Fin 256) (n : Fin 512) :
    V11 m (outs m) c main_v43 (ix3 b i n) = outOf m c (ix2 ⟨256 * b.val + i.val, by omega⟩ n) := by
  rw [← outs_v42]
  unfold V11
  generalize V10 m (outs m) c = W
  unfold hostOps1
  after_reads_at
  simp only [Nat.mul_comm b.val 256]

end Cert.KernelIdeal.Body
end
-- ==== Proof.ValueRef.lean ====
/-
  The reference's result, stage by stage, and each stage read at an index.
-/
module

public import proofs.«01_k».proof.Proof.ValueMath
public import proofs.«01_k».proof.Proof.Gen.ReferenceIdeal
public import proofs.«01_k».proof.Proof.Gen.ReferenceIdeal.Run
public import Idealize.ShloMosaic.Lib.Pointwise
public import Idealize.ShloMosaic.Lib.Routing.OpsOrder
public import Idealize.ShloMosaic.PureOps.Ideal.Laws

@[expose] public section

set_option maxRecDepth 16384

noncomputable section

namespace Cert.ReferenceIdeal.Stages

open Idealize.ShloMosaic Idealize.ShloMosaic.TcCoe
open Cert.ReferenceIdeal Cert.ReferenceIdeal.Gen Cert.ReferenceIdeal.Value

/-- The block of 64 positions that each position lies in. -/
def blocks : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- The queries' blocks, along the rows. -/
def rowBlocks : IVec S256x256 32 := broadcastInDim S256x256 ![0, 1] bcast_S256x1_S256x256_0_1 (broadcastInDim S256x1 ![0] bcast_S256_S256x1_0 blocks)
/-- The keys' blocks, along the columns. -/
def colBlocks : IVec S256x256 32 := broadcastInDim S256x256 ![0, 1] bcast_S1x256_S256x256_0_1 (broadcastInDim S1x256 ![1] bcast_S256_S1x256_1 blocks)

/-- The divisor three, as it is printed. -/
def three : IVec S_ 32 := select (cmpi .eq (constantI S_ 32 3#32) (constantI S_ 32 0#32)) (constantI S_ 32 1#32) (constantI S_ 32 3#32)

/-- The remainder of the two blocks' sum by three, as it is printed. -/
def sumMod : IVec S256x256 32 :=
  select (andi (cmpi .ne (cmpi .slt (Host.remsi (addi rowBlocks colBlocks) (broadcastInDim S256x256 ![] bcast_S_S256x256 three)) (broadcastInDim S256x256 ![] bcast_S_S256x256 (constantI S_ 32 0#32)))
        (broadcastInDim S256x256 ![] bcast_S_S256x256 (cmpi .slt three (constantI S_ 32 0#32))))
      (cmpi .ne (Host.remsi (addi rowBlocks colBlocks) (broadcastInDim S256x256 ![] bcast_S_S256x256 three)) (broadcastInDim S256x256 ![] bcast_S_S256x256 (constantI S_ 32 0#32))))
    (addi (Host.remsi (addi rowBlocks colBlocks) (broadcastInDim S256x256 ![] bcast_S_S256x256 three)) (broadcastInDim S256x256 ![] bcast_S_S256x256 three))
    (Host.remsi (addi rowBlocks colBlocks) (broadcastInDim S256x256 ![] bcast_S_S256x256 three))

/-- The mask: which key each query row may read. -/
def mask : IVec S256x256 1 :=
  ori (ori (cmpi .eq rowBlocks colBlocks)
      (broadcastInDim S256x256 ![0, 1] bcast_S1x256_S256x256_0_1
        (cmpi .eq (broadcastInDim S1x256 ![1] bcast_S256_S1x256_1 blocks) (broadcastInDim S1x256 ![] bcast_S_S1x256 (constantI S_ 32 0#32)))))
    (cmpi .eq sumMod (broadcastInDim S256x256 ![] bcast_S_S256x256 (constantI S_ 32 0#32)))

/-- Which rows may read some key. -/
def keep : IVec S256 1 := Host.reduce IntOp.ori mask (constantI S_ 1 0#1) reducesTo_S256x256_S256_d1 h_S_

/-- The query weights, quantised and scaled back. -/
def wq (w : FVec Ideal S512x2048 .bf16) : FVec Ideal S512x2048 .f32 :=
  mulf (extf .f32 (minimumf (broadcastInDim S512x2048 ![] bcast_S_S512x2048 (sitofp .bf16 (constantI S_ 32 127#32)))
      (maximumf (broadcastInDim S512x2048 ![] bcast_S_S512x2048 (sitofp .bf16 (constantI S_ 32 4294967169#32)))
        (Host.roundeven (Host.divf w (broadcastInDim S512x2048 ![] bcast_S_S512x2048 (constant S_ .bf16 0x3A25#16)))))) bitsLt_bf16_f32)
    (broadcastInDim S512x2048 ![] bcast_S_S512x2048 (constant S_ .f32 0x3A250000#32))

/-- The output weights, quantised and scaled back. -/
def wo (w : FVec Ideal S2048x512 .bf16) : FVec Ideal S2048x512 .f32 :=
  mulf (extf .f32 (minimumf (broadcastInDim S2048x512 ![] bcast_S_S2048x512 (sitofp .bf16 (constantI S_ 32 127#32)))
      (maximumf (broadcastInDim S2048x512 ![] bcast_S_S2048x512 (sitofp .bf16 (constantI S_ 32 4294967169#32)))
        (Host.roundeven (Host.divf w (broadcastInDim S2048x512 ![] bcast_S_S2048x512 (constant S_ .bf16 0x3A25#16)))))) bitsLt_bf16_f32)
    (broadcastInDim S2048x512 ![] bcast_S_S2048x512 (constant S_ .f32 0x3A250000#32))

/-- The scaled scores, where the mask allows, and -∞ elsewhere. -/
def scores (x : FVec Ideal S16x256x512 .bf16) (w : FVec Ideal S512x2048 .bf16) (k : FVec Ideal S16x256x32x64 .bf16) : FVec Ideal S16x32x256x256 .f32 :=
  select (broadcastInDim S16x32x256x256 ![0, 1, 2, 3] bcast_S1x1x256x256_S16x32x256x256_0_1_2_3 (broadcastInDim S1x1x256x256 ![2, 3] bcast_S256x256_S1x1x256x256_2_3 mask))
    (mulf (Host.dotGeneral dot_S16x256x32x64_S16x256x32x64_S16x32x256x256_3_3_1_1_02_02 none
        (truncf .bf16 (shapeCast S16x256x32x64 (Host.dotGeneral dot_S16x256x512_S512x2048_S16x256x2048_2_0_01_1_n_n none (extf .f32 x bitsLt_bf16_f32) (wq w))
          shapeCasts_S16x256x2048_S16x256x32x64) bitsLt_bf16_f32) k)
      (broadcastInDim S16x32x256x256 ![] bcast_S_S16x32x256x256 (constant S_ .f32 0x3E000000#32)))
    (broadcastInDim S16x32x256x256 ![] bcast_S_S16x32x256x256 (constant S_ .f32 0xFF800000#32))

/-- The exponentials of the scores, less each row's largest. -/
def expo (s : FVec Ideal S16x32x256x256 .f32) : FVec Ideal S16x32x256x256 .f32 :=
  Host.exp (subf s (broadcastInDim S16x32x256x256 ![0, 1, 2, 3] bcast_S16x32x256x1_S16x32x256x256_0_1_2_3
    (broadcastInDim S16x32x256x1 ![0, 1, 2] bcast_S16x32x256_S16x32x256x1_0_1_2
      (Host.reduce FloatOps.maximumf s (constant S_ .f32 0xFF800000#32) reducesTo_S16x32x256x256_S16x32x256_d3 h_S_))))

/-- The attention weights: the exponentials divided by their row's sum. -/
def attn (e : FVec Ideal S16x32x256x256 .f32) : FVec Ideal S16x32x256x256 .f32 :=
  select (broadcastInDim S16x32x256x256 ![0, 1, 2, 3] bcast_S1x1x256x1_S16x32x256x256_0_1_2_3 (broadcastInDim S1x1x256x1 ![2] bcast_S256_S1x1x256x1_2 keep))
    (Host.divf e (broadcastInDim S16x32x256x256 ![0, 1, 2, 3] bcast_S16x32x256x1_S16x32x256x256_0_1_2_3
      (select (broadcastInDim S16x32x256x1 ![0, 1, 2, 3] bcast_S1x1x256x1_S16x32x256x1_0_1_2_3 (broadcastInDim S1x1x256x1 ![2] bcast_S256_S1x1x256x1_2 keep))
        (broadcastInDim S16x32x256x1 ![0, 1, 2] bcast_S16x32x256_S16x32x256x1_0_1_2
          (Host.reduceAdd e (constant S_ .f32 0x00000000#32) reducesTo_S16x32x256x256_S16x32x256_d3 h_S_))
        (broadcastInDim S16x32x256x1 ![] bcast_S_S16x32x256x1 (constant S_ .f32 0x3F800000#32)))))
    (broadcastInDim S16x32x256x256 ![] bcast_S_S16x32x256x256 (constant S_ .f32 0x00000000#32))

/-- The result, from the attention weights, the values and the output weights. -/
def result (a : FVec Ideal S16x32x256x256 .f32) (v : FVec Ideal S16x256x32x64 .bf16) (w : FVec Ideal S2048x512 .bf16) : FVec Ideal S16x256x512 .f32 :=
  Host.dotGeneral dot_S16x256x2048_S2048x512_S16x256x512_2_0_01_1_n_n none
    (shapeCast S16x256x2048 (transpose S16x256x32x64 [0, 3, 1, 2] (Host.dotGeneral dot_S16x256x32x64_S16x32x256x256_S16x32x64x256_1_3_3_2_02_01 none
      (extf .f32 v bitsLt_bf16_f32) a) transposes_S16x32x64x256_S16x256x32x64_0_3_1_2) shapeCasts_S16x256x32x64_S16x256x2048) (wo w)

set_option maxHeartbeats 4000000 in
/-- The printed reference's result is the stages' composition. -/
theorem res_eq (m : (ℓ : Loc nD τ sig) → Buf (Elt Ideal) ℓ) (c : Dev nD) :
    res_main_v61 (F := Ideal) m c = result (attn (expo (scores (m ((c.tc : Thread nD τ).loc main_arg0)) (m ((c.tc : Thread nD τ).loc main_arg1)) (m ((c.tc : Thread nD τ).loc main_arg2)))))
      (m ((c.tc : Thread nD τ).loc main_arg3)) (m ((c.tc : Thread nD τ).loc main_arg4)) := by
  unfold res_main_v61
  rfl

/-! ## The mask, at an index -/

theorem blocks_at (i : Fin 256) : blocks (ix1 i) = BitVec.ofNat 32 (i.val / 64) := by
  pointwise [blocks]
  revert i
  decide +kernel

/-- The reference's mask is 1 where a query may read a key. -/
theorem mask_at (i j : Fin 256) : mask (ix2 i j) = 1#1 ↔ Attention.Allowed i j := by
  pointwise [mask, sumMod, three, rowBlocks, colBlocks]
  simp only [blocks_at]
  unfold Attention.Allowed
  obtain ⟨a, ha⟩ : ∃ a : Fin 4, i.val / 64 = a.val := ⟨⟨i.val / 64, by omega⟩, rfl⟩
  obtain ⟨b, hb⟩ : ∃ b : Fin 4, j.val / 64 = b.val := ⟨⟨j.val / 64, by omega⟩, rfl⟩
  rw [ha, hb]
  clear ha hb
  revert a b
  decide +kernel

/-- Every row keeps something: its own diagonal entry. -/
theorem keep_at (i : Fin 256) : keep (ix1 i) = 1#1 := by
  pointwise [keep]
  rw [Routing.fold_ori]
  exact ⟨i, Finset.mem_univ i, (mask_at i i).mpr (Attention.allowed_self i)⟩

/-! ## The weights -/

theorem wq_at (w : FVec Ideal S512x2048 .bf16) (e : Fin 512) (n : Fin 2048) :
    wq w (ix2 e n) = Attention.code (w (ix2 e n)) * (Attention.scale : EReal) := by
  pointwise [wq]
  rw [Attention.clip_at, Attention.scale_f32]

theorem wo_at (w : FVec Ideal S2048x512 .bf16) (t : Fin 2048) (n : Fin 512) :
    wo w (ix2 t n) = Attention.code (w (ix2 t n)) * (Attention.scale : EReal) := by
  pointwise [wo]
  rw [Attention.clip_at, Attention.scale_f32]

/-! ## The attention -/

theorem scores_at (x : FVec Ideal S16x256x512 .bf16) (w : FVec Ideal S512x2048 .bf16) (k : FVec Ideal S16x256x32x64 .bf16) (b : Fin 16) (h : Fin 32) (i j : Fin 256) :
    scores x w k (ix4 b h i j) = if Attention.Allowed i j then
      Attention.rScore (fun e => x (ix3 b i e)) (fun e d => Attention.code (w (ix2 e ⟨h.val * 64 + d.val, by omega⟩))) (fun d => k (ix4 b j h d)) else ⊥ := by
  pointwise [scores]
  simp only [wq_at, Attention.eighth_f32, Attention.ninf_f32]
  exact if_congr (mask_at i j) rfl rfl

theorem attn_at (s : FVec Ideal S16x32x256x256 .f32) (b : Fin 16) (h : Fin 32) (i j : Fin 256) :
    attn (expo s) (ix4 b h i j) = Ideal.div (Ideal.exp (s (ix4 b h i j) - Finset.fold max ⊥ (fun x => s (ix4 b h i x)) Finset.univ))
      (∑ j', Ideal.exp (s (ix4 b h i j') - Finset.fold max ⊥ (fun x => s (ix4 b h i x)) Finset.univ)) := by
  pointwise [attn, expo]
  simp only [keep_at, Attention.ninf_f32]
  rfl

theorem result_at (a : FVec Ideal S16x32x256x256 .f32) (v : FVec Ideal S16x256x32x64 .bf16) (w : FVec Ideal S2048x512 .bf16) (b : Fin 16) (i : Fin 256) (n : Fin 512) :
    result a v w (ix3 b i n)
      = ∑ t : Fin 2048, (∑ j, v (ix4 b j ⟨t.val / 64, by omega⟩ ⟨t.val % 64, by omega⟩) * a (ix4 b ⟨t.val / 64, by omega⟩ i j))
          * (Attention.code (w (ix2 t n)) * (Attention.scale : EReal)) := by
  pointwise [result]
  simp only [wo_at]

/-- The attention's output at a batch, a query and a column: the column's head and its place there. -/
def head (x : FVec Ideal S16x256x512 .bf16) (w : FVec Ideal S512x2048 .bf16) (k v : FVec Ideal S16x256x32x64 .bf16) (b : Fin 16) (i : Fin 256)
    (t : Fin 2048) : EReal :=
  Attention.rHead (Attention.Allowed i)
    (fun j => Attention.rScore (fun e => x (ix3 b i e)) (fun e d => Attention.code (w (ix2 e ⟨t.val / 64 * 64 + d.val, by omega⟩)))
      (fun d => k (ix4 b j ⟨t.val / 64, by omega⟩ d)))
    (fun j => v (ix4 b j ⟨t.val / 64, by omega⟩ ⟨t.val % 64, by omega⟩))

/-- The reference's result at an index: the attention's output times the output weights' codes, scaled back. -/
theorem reference_at (x : FVec Ideal S16x256x512 .bf16) (w : FVec Ideal S512x2048 .bf16) (k v : FVec Ideal S16x256x32x64 .bf16)
    (wo : FVec Ideal S2048x512 .bf16) (b : Fin 16) (i : Fin 256) (n : Fin 512) :
    result (attn (expo (scores x w k))) v wo (ix3 b i n)
      = ∑ t : Fin 2048, head x w k v b i t * (Attention.code (wo (ix2 t n)) * (Attention.scale : EReal)) := by
  rw [result_at]
  simp only [attn_at, scores_at]
  rfl

end Cert.ReferenceIdeal.Stages

end
-- ==== Proof.Value.lean ====
/-
  The value claim: on every device the kernel's result is its block of the reference's.
-/
module

public import proofs.«01_k».proof.Defs
public import proofs.«01_k».proof.Proof.ValueKernel
public import proofs.«01_k».proof.Proof.ValueHost
public import proofs.«01_k».proof.Proof.ValueRef
public import proofs.«01_k».proof.Proof.Gen.Pre_finite_x_k_KernelIdeal
public import proofs.«01_k».proof.Proof.Gen.ReferenceIdeal.Run
public import Idealize.ShloMosaic.Lib.ReduceAll
public import Idealize.ShloMosaic.Lib.LayoutAt

@[expose] public section

set_option maxRecDepth 16384

noncomputable section

namespace Cert.Proof

open Idealize.ShloMosaic Idealize.SL.Sem
open Cert.KernelIdeal.Body Cert.ReferenceIdeal.Stages

/-- A sum over 2048 columns, by the eight blocks of 256. -/
theorem sum_blocks (f : Fin 2048 → EReal) : ∑ o : Fin 8, ∑ u : Fin 256, f ⟨256 * o.val + u.val, by omega⟩ = ∑ t, f t := by
  rw [← Fintype.sum_prod_type' (fun (o : Fin 8) (u : Fin 256) => f ⟨256 * o.val + u.val, by omega⟩)]
  exact Fintype.sum_equiv (finProdFinEquiv (m := 8) (n := 256)) _ f (fun p => congrArg f (Fin.ext (by
    show 256 * p.1.val + p.2.val = p.2.val + 256 * p.1.val
    omega)))

/-- The reference's head at a column, with the column's head and place given. -/
theorem head_as (x : FVec Ideal Cert.ReferenceIdeal.S16x256x512 .bf16) (w : FVec Ideal Cert.ReferenceIdeal.S512x2048 .bf16)
    (k v : FVec Ideal Cert.ReferenceIdeal.S16x256x32x64 .bf16) (b : Fin 16) (i : Fin 256) (t : Fin 2048) (h : Fin 32) (d : Fin 64)
    (ht : t.val = 64 * h.val + d.val) :
    head x w k v b i t = Attention.rHead (Attention.Allowed i)
      (fun j => Attention.rScore (fun e => x (ix3 b i e)) (fun e d' => Attention.code (w (ix2 e ⟨64 * h.val + d'.val, by clear ht; omega⟩)))
        (fun d' => k (ix4 b j h d')))
      (fun j => v (ix4 b j h d)) := by
  have e1 : t.val / 64 = h.val := by omega
  have e2 : t.val % 64 = d.val := by omega
  unfold head
  simp only [e1, e2, Fin.eta, Nat.mul_comm h.val 64]

section Sum

variable (m : (ℓ : Loc Cert.KernelIdeal.nD Cert.KernelIdeal.τ Cert.KernelIdeal.sig) → Buf (Elt Ideal) ℓ)
variable (X : FVec Ideal Cert.ReferenceIdeal.S16x256x512 .bf16) (Q : FVec Ideal Cert.ReferenceIdeal.S512x2048 .bf16)
  (K V : FVec Ideal Cert.ReferenceIdeal.S16x256x32x64 .bf16) (O : FVec Ideal Cert.ReferenceIdeal.S2048x512 .bf16)

/-- What the launches' arguments are of the reference's, and which of them are finite. -/
structure Shares : Prop where
  x : ∀ (c : Fin 8) (b : Fin 2) (i : Fin 256) (e : Fin 512), argX m c (ix3 b i e) = X (ix3 ⟨2 * c.val + b.val, by omega⟩ i e)
  q : ∀ (o : Fin 8) (e : Fin 512) (u : Fin 256), argQ m o (ix2 e u) = Q (ix2 e ⟨256 * o.val + u.val, by omega⟩)
  k : ∀ c : Fin 8, argK m c = K
  v : ∀ c : Fin 8, argV m c = V
  o : ∀ (o : Fin 8) (u : Fin 256) (n : Fin 512), argO m o (ix2 u n) = O (ix2 ⟨256 * o.val + u.val, by omega⟩ n)
  finite_x : ∀ (c : Fin 8) b i e, ∃ r : ℝ, argX m c (ix3 b i e) = (r : EReal)
  finite_k : ∀ (c : Fin 8) b j h d, ∃ r : ℝ, argK m c (ix4 b j h d) = (r : EReal)

variable {m X Q K V O} (H : Shares m X Q K V O)
include H

/-- A query weight's code, on its owner, is the code of the reference's weight. -/
theorem code_q (o : Fin 8) (u : Fin 256) (e : Fin 512) :
    num (wbOf m o) ⟨u.val, by omega⟩ e = Attention.code (Q (ix2 e ⟨256 * o.val + u.val, by omega⟩)) := by
  rw [← H.q]
  exact (w_at m o ⟨u.val, by omega⟩ e).trans (dif_pos u.isLt)

/-- An output weight's code, likewise. -/
theorem code_o (o : Fin 8) (u : Fin 256) (n : Fin 512) :
    num (wbOf m o) ⟨256 + u.val, by omega⟩ n = Attention.code (O (ix2 ⟨256 * o.val + u.val, by omega⟩ n)) := by
  rw [← H.o]
  refine (w_at m o ⟨256 + u.val, by omega⟩ n).trans ((dif_neg (by show ¬ (256 + u.val < 256); omega)).trans ?_)
  exact congrArg (fun a : Fin 256 => Attention.code (argO m o (ix2 a n))) (Fin.ext (by show 256 + u.val - 256 = u.val; omega))

/-- One column of a device's attention, for one owner, is the reference's times the quantiser's scale. -/
theorem head_at (c : Fin 8) (b : Fin 2) (i : Fin 256) (o : Fin 8) (u : Fin 256) :
    ctxAt (fun r u => ∑ e, xOf m c (ix2 r e) * (Attention.qscale : EReal) * num (wbOf m o) ⟨u.val, by omega⟩ e)
        (fun g j d => kOf m c (ix4 o g j d))
        (fun g j d => argV m c (ix4 ⟨2 * c.val + g.val / 4, by omega⟩ j ⟨4 * o.val + g.val % 4, by omega⟩ d))
        ⟨256 * b.val + i.val, by omega⟩ u
      = head X Q K V ⟨2 * c.val + b.val, by omega⟩ i ⟨256 * o.val + u.val, by omega⟩ * (Attention.scale : EReal) := by
  obtain ⟨h, d, hu⟩ : ∃ (h : Fin 4) (d : Fin 64), u.val = 64 * h.val + d.val :=
    ⟨⟨u.val / 64, by omega⟩, ⟨u.val % 64, by omega⟩, by show u.val = 64 * (u.val / 64) + u.val % 64; omega⟩
  rw [ctxAt_at _ _ _ _ _ b h i d rfl hu,
    head_as X Q K V _ i _ ⟨4 * o.val + h.val, by clear hu; omega⟩ d (by show 256 * o.val + u.val = 64 * (4 * o.val + h.val) + d.val; omega)]
  have g1 : (4 * b.val + h.val) / 4 = b.val := by clear hu; omega
  have g2 : (4 * b.val + h.val) % 4 = h.val := by clear hu; omega
  have hx : ∀ e : Fin 512, xOf m c (ix2 ⟨256 * b.val + i.val, by clear hu; omega⟩ e) = X (ix3 ⟨2 * c.val + b.val, by clear hu; omega⟩ i e) := fun e => by
    have r1 : (256 * b.val + i.val) / 256 = b.val := by clear hu; omega
    have r2 : (256 * b.val + i.val) % 256 = i.val := by clear hu; omega
    rw [x_at, ← H.x]
    simp only [r1, r2, Fin.eta]
  have hk : ∀ (j : Fin 256) (d' : Fin 64), kOf m c (ix4 o ⟨4 * b.val + h.val, by clear hu; omega⟩ j d')
      = K (ix4 ⟨2 * c.val + b.val, by clear hu; omega⟩ j ⟨4 * o.val + h.val, by clear hu; omega⟩ d') := fun j d' => by
    rw [k_at, H.k]
    simp only [g1, g2]
  have hq : ∀ (d' : Fin 64) (e : Fin 512), num (wbOf m o) ⟨64 * h.val + d'.val, by clear hu; omega⟩ e
      = Attention.code (Q (ix2 e ⟨64 * (4 * o.val + h.val) + d'.val, by clear hu; omega⟩)) := fun d' e => by
    refine (code_q H o ⟨64 * h.val + d'.val, by clear hu; omega⟩ e).trans ?_
    exact congrArg (fun a : Fin 2048 => Attention.code (Q (ix2 e a))) (Fin.ext (by
      show 256 * o.val + (64 * h.val + d'.val) = 64 * (4 * o.val + h.val) + d'.val
      clear hu; omega))
  have hs := fun j : Fin 256 => Attention.scores_finite (fun e => X (ix3 ⟨2 * c.val + b.val, by clear hu; omega⟩ i e))
    (fun e d' => Attention.code (Q (ix2 e ⟨64 * (4 * o.val + h.val) + d'.val, by clear hu; omega⟩)))
    (fun d' => K (ix4 ⟨2 * c.val + b.val, by clear hu; omega⟩ j ⟨4 * o.val + h.val, by clear hu; omega⟩ d'))
    (fun e => by rw [← H.x]; exact H.finite_x c b i e)
    (fun e d' => let ⟨n, _, _, hn⟩ := Attention.code_int _; ⟨n, hn⟩)
    (fun d' => by rw [← H.k c]; exact H.finite_k c _ _ _ _)
  choose t hr hk' using hs
  have hv : (fun j : Fin 256 => argV m c (ix4 ⟨2 * c.val + (4 * b.val + h.val) / 4, by clear hu; omega⟩ j ⟨4 * o.val + (4 * b.val + h.val) % 4, by clear hu; omega⟩ d))
      = fun j => V (ix4 ⟨2 * c.val + b.val, by clear hu; omega⟩ j ⟨4 * o.val + h.val, by clear hu; omega⟩ d) := funext fun j => by
    rw [H.v]
    simp only [g1, g2]
  refine (congrArg (Attention.kHead (Attention.Allowed i) _) hv).trans ?_
  refine Attention.head_eq _ ⟨i, Attention.allowed_self i⟩ _ _ _ t (fun j => ?_) hr
  rw [← hk' j]
  unfold Attention.kScore
  refine Finset.sum_congr rfl fun d' _ => congrArg₂ (· * ·) (Finset.sum_congr rfl fun e _ => ?_) (hk j d')
  exact congrArg₂ (· * ·) (congrArg (· * (Attention.qscale : EReal)) (hx e)) (hq d' e)

/-- The kernel's result on a device, at a batch, a query and a column, is the reference's at the device's batch. -/
theorem value_at (c : Fin 8) (b : Fin 2) (i : Fin 256) (n : Fin 512) :
    outOf m c (ix2 ⟨256 * b.val + i.val, by omega⟩ n)
      = result (attn (expo (scores X Q K))) V O (ix3 ⟨2 * c.val + b.val, by omega⟩ i n) := by
  rw [reference_at, ← sum_blocks]
  unfold outOf
  rw [acc_at _ _ _ _ _ _ (v_at m c)]
  refine Finset.sum_congr rfl fun o _ => Finset.sum_congr rfl fun u _ => ?_
  refine (congrArg₂ (· * ·) (head_at H c b i o u) (code_o H o u n)).trans ?_
  rw [mul_assoc, mul_comm (Attention.scale : EReal)]

end Sum

/-- The bf16 pattern the precondition compares against is the positive infinity. -/
theorem inf_bf16 : Ideal.ofBits .bf16 0x7F80#16 = ⊤ := by simp [Ideal.ofBits, Ideal.ieee]

/-- A value whose absolute value compares below infinity is a number. -/
theorem finite_of_abs (x : EReal) (h : Ideal.cmp .olt (max x (-x)) (Ideal.ofBits .bf16 0x7F80#16) = 1#1) : ∃ r : ℝ, x = (r : EReal) := by
  rw [inf_bf16] at h
  induction x with
  | bot => simp [Ideal.cmp] at h
  | coe r => exact ⟨r, rfl⟩
  | top => simp [Ideal.cmp] at h

section Claim

local instance valueKernelFacts : Cert.KernelIdeal.Facts := Cert.KernelIdeal.Gen.facts
local instance valueReferenceFacts : Cert.ReferenceIdeal.Facts := Cert.ReferenceIdeal.Gen.facts
local instance valuePreFacts : Cert.Pre_finite_x_k_KernelIdeal.Facts := Cert.Pre_finite_x_k_KernelIdeal.Gen.facts

/-- The precondition, read: every element of the activations and of the keys is a number. -/
theorem finite_args (m : (ℓ : Loc Cert.KernelIdeal.nD Cert.KernelIdeal.τ Cert.KernelIdeal.sig) → Buf (Elt Ideal) ℓ)
    (h : Cert.Pre_KernelIdeal_finite_x_k_KernelIdeal m) (c : Fin 8) :
    (∀ j, ∃ r : ℝ, argX m c j = (r : EReal)) ∧ ∀ j, ∃ r : ℝ, argK m c j = (r : EReal) := by
  have e := congrFun (h c) ix0
  unfold Cert.Pre_finite_x_k_KernelIdeal.fn at e
  haveI : Subsingleton Cert.Pre_finite_x_k_KernelIdeal.S_.Idx := ⟨fun a b => funext fun i => i.elim0⟩
  obtain ⟨e1, e2⟩ := IntOp.andi_eq_one.1 e
  exact ⟨fun j => finite_of_abs _ (Host.reduce_andi_all _ _ _ _ _ e1 j), fun j => finite_of_abs _ (Host.reduce_andi_all _ _ _ _ _ e2 j)⟩

/-- On activations and keys that are numbers, whatever the values and the weights, every device's result is its block of the
    reference's. -/
theorem algebraic : Cert.algebraic_KernelIdeal_ReferenceIdeal_pre_finite_x_k_KernelIdeal := by
  intro m g m' g' hp hA
  have H : Shares m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b i e => (congrFun (hA c).1 (ix3 b i e)).trans (by rw [Layout.block_apply]; shard_ext)
      q := fun o e u => (congrFun (hA o).2.1 (ix2 e u)).trans (by rw [Layout.block_apply]; shard_ext)
      k := fun c => (hA c).2.2.1
      v := fun c => (hA c).2.2.2.1
      o := fun o u n => (congrFun (hA o).2.2.2.2 (ix2 u n)).trans (by rw [Layout.block_apply]; shard_ext)
      finite_x := fun c b i e => (finite_args m hp c).1 _
      finite_k := fun c b j h d => (finite_args m hp c).2 _ }
  refine ⟨Cert.ReferenceIdeal.Value.res_main_v61 (F := Ideal) m' 0, ?_, ?_⟩
  · refine MeshRun.mono (fun r h c => ⟨(h.1 c).2.trans (funext fun j => ?_), (h.1 c).1⟩) (Cert.KernelIdeal.Body.run_main m g)
    obtain ⟨b, i, n, rfl⟩ : ∃ (b : Fin 2) (i : Fin 256) (n : Fin 512), j = ix3 b i n := ⟨j 0, j 1, j 2, by
      funext a; match a with | 0 => rfl | 1 => rfl | 2 => rfl⟩
    rw [out_at, value_at H c b i n, res_eq, Layout.block_apply]
    shard_ext
  · exact MeshRun.mono (fun r h => h 0) (Cert.ReferenceIdeal.Value.run (F := Ideal) m' g')

end Claim

end Cert.Proof
end
-- ==== Proof.lean ====
/-
  The certificate: each conjunct of the claim, in order, from its own module.
-/
module

public import proofs.«01_k».proof.Defs
public import proofs.«01_k».proof.Proof.Frames
public import proofs.«01_k».proof.Proof.Ref
public import proofs.«01_k».proof.Proof.Value
public import proofs.«01_k».proof.Proof.Gen.ReferenceIdeal
public import proofs.«01_k».proof.Proof.Gen.ReferenceIdeal.Run
public import proofs.«01_k».proof.Proof.Gen.Pre_finite_x_k_KernelIdeal
public import proofs.«01_k».proof.Proof.Gen.Pre_finite_x_k_ReferenceIdeal

@[expose] public section

namespace Cert.Proof

open Idealize.ShloMosaic

/-- Naming the folded query scale keeps every other operation: the name's value is the scale's exact one. -/
theorem preserves_scale : Cert.preserves_Kernel_KernelIdeal :=
  IdealRules.named_const.statement Cert.KernelIdeal.κ "qscale" .bf16 0x38EE#16 _ rfl

/-- Everything claimed: the three frames, the naming that preserves the kernel, and the value claim. -/
theorem claim : Cert.Claim :=
  ⟨Cert.Kernel.Gen.facts, Cert.KernelIdeal.Gen.facts, Cert.ReferenceIdeal.Gen.facts,
    Cert.Pre_finite_x_k_KernelIdeal.Gen.facts, Cert.Pre_finite_x_k_ReferenceIdeal.Gen.facts,
    frame_kernel, frame_ideal, fun m g _ => frame_ideal m g trivial, frame_ref, fun m g _ => frame_ref m g trivial,
    preserves_scale, algebraic⟩

end Cert.Proof
